-- ==== Defs.lean ====
def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Reference2Ideal (m : (ℓ : Loc Cert.Reference2Ideal.nD Cert.Reference2Ideal.τ Cert.Reference2Ideal.sig) → Buf (Elt Ideal) ℓ) : Prop :=
  True

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Reference3Ideal (m : (ℓ : Loc Cert.Reference3Ideal.nD Cert.Reference3Ideal.τ Cert.Reference3Ideal.sig) → Buf (Elt Ideal) ℓ) : Prop :=
  True

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2)
      ∧ r.2.mem ((c.tc : Thread Cert.Kernel2.nD Cert.Kernel2.τ).loc Cert.Kernel2.main_arg3) = m ((c.tc : Thread Cert.Kernel2.nD Cert.Kernel2.τ).loc Cert.Kernel2.main_arg3)
      ∧ r.2.mem ((c.tc : Thread Cert.Kernel2.nD Cert.Kernel2.τ).loc Cert.Kernel2.main_arg4) = m ((c.tc : Thread Cert.Kernel2.nD Cert.Kernel2.τ).loc Cert.Kernel2.main_arg4)
      ∧ r.2.mem ((c.tc : Thread Cert.Kernel2.nD Cert.Kernel2.τ).loc Cert.Kernel2.main_arg5) = m ((c.tc : Thread Cert.Kernel2.nD Cert.Kernel2.τ).loc Cert.Kernel2.main_arg5)
      ∧ r.2.mem ((c.tc : Thread Cert.Kernel2.nD Cert.Kernel2.τ).loc Cert.Kernel2.main_arg6) = m ((c.tc : Thread Cert.Kernel2.nD Cert.Kernel2.τ).loc Cert.Kernel2.main_arg6)
      ∧ r.2.mem ((c.tc : Thread Cert.Kernel2.nD Cert.Kernel2.τ).loc Cert.Kernel2.main_arg7) = m ((c.tc : Thread Cert.Kernel2.nD Cert.Kernel2.τ).loc Cert.Kernel2.main_arg7)
      ∧ r.2.mem ((c.tc : Thread Cert.Kernel2.nD Cert.Kernel2.τ).loc Cert.Kernel2.main_arg8) = m ((c.tc : Thread Cert.Kernel2.nD Cert.Kernel2.τ).loc Cert.Kernel2.main_arg8)
      ∧ r.2.mem ((c.tc : Thread Cert.Kernel2.nD Cert.Kernel2.τ).loc Cert.Kernel2.main_arg9) = m ((c.tc : Thread Cert.Kernel2.nD Cert.Kernel2.τ).loc Cert.Kernel2.main_arg9)
      ∧ r.2.mem ((c.tc : Thread Cert.Kernel2.nD Cert.Kernel2.τ).loc Cert.Kernel2.main_arg10) = m ((c.tc : Thread Cert.Kernel2.nD Cert.Kernel2.τ).loc Cert.Kernel2.main_arg10)
      ∧ r.2.mem ((c.tc : Thread Cert.Kernel2.nD Cert.Kernel2.τ).loc Cert.Kernel2.main_arg11) = m ((c.tc : Thread Cert.Kernel2.nD Cert.Kernel2.τ).loc Cert.Kernel2.main_arg11)
      ∧ r.2.mem ((c.tc : Thread Cert.Kernel2.nD Cert.Kernel2.τ).loc Cert.Kernel2.main_arg12) = m ((c.tc : Thread Cert.Kernel2.nD Cert.Kernel2.τ).loc Cert.Kernel2.main_arg12)
      ∧ r.2.mem ((c.tc : Thread Cert.Kernel2.nD Cert.Kernel2.τ).loc Cert.Kernel2.main_arg13) = m ((c.tc : Thread Cert.Kernel2.nD Cert.Kernel2.τ).loc Cert.Kernel2.main_arg13)
      ∧ r.2.mem ((c.tc : Thread Cert.Kernel2.nD Cert.Kernel2.τ).loc Cert.Kernel2.main_arg14) = m ((c.tc : Thread Cert.Kernel2.nD Cert.Kernel2.τ).loc Cert.Kernel2.main_arg14)
      ∧ r.2.mem ((c.tc : Thread Cert.Kernel2.nD Cert.Kernel2.τ).loc Cert.Kernel2.main_arg15) = m ((c.tc : Thread Cert.Kernel2.nD Cert.Kernel2.τ).loc Cert.Kernel2.main_arg15)
      ∧ r.2.mem ((c.tc : Thread Cert.Kernel2.nD Cert.Kernel2.τ).loc Cert.Kernel2.main_arg16) = m ((c.tc : Thread Cert.Kernel2.nD Cert.Kernel2.τ).loc Cert.Kernel2.main_arg16))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
      ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
      ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5)
      ∧ r.2.mem ((c.tc : Thread Cert.Kernel2Ideal.nD Cert.Kernel2Ideal.τ).loc Cert.Kernel2Ideal.main_arg6) = m ((c.tc : Thread Cert.Kernel2Ideal.nD Cert.Kernel2Ideal.τ).loc Cert.Kernel2Ideal.main_arg6)
      ∧ r.2.mem ((c.tc : Thread Cert.Kernel2Ideal.nD Cert.Kernel2Ideal.τ).loc Cert.Kernel2Ideal.main_arg7) = m ((c.tc : Thread Cert.Kernel2Ideal.nD Cert.Kernel2Ideal.τ).loc Cert.Kernel2Ideal.main_arg7)
      ∧ r.2.mem ((c.tc : Thread Cert.Kernel2Ideal.nD Cert.Kernel2Ideal.τ).loc Cert.Kernel2Ideal.main_arg8) = m ((c.tc : Thread Cert.Kernel2Ideal.nD Cert.Kernel2Ideal.τ).loc Cert.Kernel2Ideal.main_arg8)
      ∧ r.2.mem ((c.tc : Thread Cert.Kernel2Ideal.nD Cert.Kernel2Ideal.τ).loc Cert.Kernel2Ideal.main_arg9) = m ((c.tc : Thread Cert.Kernel2Ideal.nD Cert.Kernel2Ideal.τ).loc Cert.Kernel2Ideal.main_arg9)
      ∧ r.2.mem ((c.tc : Thread Cert.Kernel2Ideal.nD Cert.Kernel2Ideal.τ).loc Cert.Kernel2Ideal.main_arg10) = m ((c.tc : Thread Cert.Kernel2Ideal.nD Cert.Kernel2Ideal.τ).loc Cert.Kernel2Ideal.main_arg10)
      ∧ r.2.mem ((c.tc : Thread Cert.Kernel2Ideal.nD Cert.Kernel2Ideal.τ).loc Cert.Kernel2Ideal.main_arg11) = m ((c.tc : Thread Cert.Kernel2Ideal.nD Cert.Kernel2Ideal.τ).loc Cert.Kernel2Ideal.main_arg11)
      ∧ r.2.mem ((c.tc : Thread Cert.Kernel2Ideal.nD Cert.Kernel2Ideal.τ).loc Cert.Kernel2Ideal.main_arg12) = m ((c.tc : Thread Cert.Kernel2Ideal.nD Cert.Kernel2Ideal.τ).loc Cert.Kernel2Ideal.main_arg12)
      ∧ r.2.mem ((c.tc : Thread Cert.Kernel2Ideal.nD Cert.Kernel2Ideal.τ).loc Cert.Kernel2Ideal.main_arg13) = m ((c.tc : Thread Cert.Kernel2Ideal.nD Cert.Kernel2Ideal.τ).loc Cert.Kernel2Ideal.main_arg13)
      ∧ r.2.mem ((c.tc : Thread Cert.Kernel2Ideal.nD Cert.Kernel2Ideal.τ).loc Cert.Kernel2Ideal.main_arg14) = m ((c.tc : Thread Cert.Kernel2Ideal.nD Cert.Kernel2Ideal.τ).loc Cert.Kernel2Ideal.main_arg14)
      ∧ r.2.mem ((c.tc : Thread Cert.Kernel2Ideal.nD Cert.Kernel2Ideal.τ).loc Cert.Kernel2Ideal.main_arg15) = m ((c.tc : Thread Cert.Kernel2Ideal.nD Cert.Kernel2Ideal.τ).loc Cert.Kernel2Ideal.main_arg15)
      ∧ r.2.mem ((c.tc : Thread Cert.Kernel2Ideal.nD Cert.Kernel2Ideal.τ).loc Cert.Kernel2Ideal.main_arg16) = m ((c.tc : Thread Cert.Kernel2Ideal.nD Cert.Kernel2Ideal.τ).loc Cert.Kernel2Ideal.main_arg16))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3)
      ∧ r.2.mem ((c.tc : Thread Cert.Reference2Ideal.nD Cert.Reference2Ideal.τ).loc Cert.Reference2Ideal.main_arg4) = m ((c.tc : Thread Cert.Reference2Ideal.nD Cert.Reference2Ideal.τ).loc Cert.Reference2Ideal.main_arg4)
      ∧ r.2.mem ((c.tc : Thread Cert.Reference2Ideal.nD Cert.Reference2Ideal.τ).loc Cert.Reference2Ideal.main_arg5) = m ((c.tc : Thread Cert.Reference2Ideal.nD Cert.Reference2Ideal.τ).loc Cert.Reference2Ideal.main_arg5)
      ∧ r.2.mem ((c.tc : Thread Cert.Reference2Ideal.nD Cert.Reference2Ideal.τ).loc Cert.Reference2Ideal.main_arg6) = m ((c.tc : Thread Cert.Reference2Ideal.nD Cert.Reference2Ideal.τ).loc Cert.Reference2Ideal.main_arg6)
      ∧ r.2.mem ((c.tc : Thread Cert.Reference2Ideal.nD Cert.Reference2Ideal.τ).loc Cert.Reference2Ideal.main_arg7) = m ((c.tc : Thread Cert.Reference2Ideal.nD Cert.Reference2Ideal.τ).loc Cert.Reference2Ideal.main_arg7)
      ∧ r.2.mem ((c.tc : Thread Cert.Reference2Ideal.nD Cert.Reference2Ideal.τ).loc Cert.Reference2Ideal.main_arg8) = m ((c.tc : Thread Cert.Reference2Ideal.nD Cert.Reference2Ideal.τ).loc Cert.Reference2Ideal.main_arg8)
      ∧ r.2.mem ((c.tc : Thread Cert.Reference2Ideal.nD Cert.Reference2Ideal.τ).loc Cert.Reference2Ideal.main_arg9) = m ((c.tc : Thread Cert.Reference2Ideal.nD Cert.Reference2Ideal.τ).loc Cert.Reference2Ideal.main_arg9)
      ∧ r.2.mem ((c.tc : Thread Cert.Reference2Ideal.nD Cert.Reference2Ideal.τ).loc Cert.Reference2Ideal.main_arg10) = m ((c.tc : Thread Cert.Reference2Ideal.nD Cert.Reference2Ideal.τ).loc Cert.Reference2Ideal.main_arg10)
      ∧ r.2.mem ((c.tc : Thread Cert.Reference2Ideal.nD Cert.Reference2Ideal.τ).loc Cert.Reference2Ideal.main_arg11) = m ((c.tc : Thread Cert.Reference2Ideal.nD Cert.Reference2Ideal.τ).loc Cert.Reference2Ideal.main_arg11)
      ∧ r.2.mem ((c.tc : Thread Cert.Reference2Ideal.nD Cert.Reference2Ideal.τ).loc Cert.Reference2Ideal.main_arg12) = m ((c.tc : Thread Cert.Reference2Ideal.nD Cert.Reference2Ideal.τ).loc Cert.Reference2Ideal.main_arg12)
      ∧ r.2.mem ((c.tc : Thread Cert.Reference2Ideal.nD Cert.Reference2Ideal.τ).loc Cert.Reference2Ideal.main_arg13) = m ((c.tc : Thread Cert.Reference2Ideal.nD Cert.Reference2Ideal.τ).loc Cert.Reference2Ideal.main_arg13)
      ∧ r.2.mem ((c.tc : Thread Cert.Reference2Ideal.nD Cert.Reference2Ideal.τ).loc Cert.Reference2Ideal.main_arg14) = m ((c.tc : Thread Cert.Reference2Ideal.nD Cert.Reference2Ideal.τ).loc Cert.Reference2Ideal.main_arg14)
      ∧ r.2.mem ((c.tc : Thread Cert.Reference2Ideal.nD Cert.Reference2Ideal.τ).loc Cert.Reference2Ideal.main_arg15) = m ((c.tc : Thread Cert.Reference2Ideal.nD Cert.Reference2Ideal.τ).loc Cert.Reference2Ideal.main_arg15)
      ∧ r.2.mem ((c.tc : Thread Cert.Reference2Ideal.nD Cert.Reference2Ideal.τ).loc Cert.Reference2Ideal.main_arg16) = m ((c.tc : Thread Cert.Reference2Ideal.nD Cert.Reference2Ideal.τ).loc Cert.Reference2Ideal.main_arg16))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1))
      ∧ r.2.sem = fun _ => 0)

def preserves_Kernel2_Kernel2Ideal : Prop :=
  True

def algebraic_Kernel2Ideal_Reference2Ideal [hKernel2Ideal : Cert.Kernel2Ideal.Facts] [hReference2Ideal : Cert.Reference2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)
      ∧ m' ((c.tc : Thread Cert.Reference2Ideal.nD Cert.Reference2Ideal.τ).loc Cert.Reference2Ideal.main_arg3) = m ((c.tc : Thread Cert.Kernel2Ideal.nD Cert.Kernel2Ideal.τ).loc Cert.Kernel2Ideal.main_arg3)
      ∧ m' ((c.tc : Thread Cert.Reference2Ideal.nD Cert.Reference2Ideal.τ).loc Cert.Reference2Ideal.main_arg4) = m ((c.tc : Thread Cert.Kernel2Ideal.nD Cert.Kernel2Ideal.τ).loc Cert.Kernel2Ideal.main_arg4)
      ∧ m' ((c.tc : Thread Cert.Reference2Ideal.nD Cert.Reference2Ideal.τ).loc Cert.Reference2Ideal.main_arg5) = m ((c.tc : Thread Cert.Kernel2Ideal.nD Cert.Kernel2Ideal.τ).loc Cert.Kernel2Ideal.main_arg5)
      ∧ m' ((c.tc : Thread Cert.Reference2Ideal.nD Cert.Reference2Ideal.τ).loc Cert.Reference2Ideal.main_arg6) = m ((c.tc : Thread Cert.Kernel2Ideal.nD Cert.Kernel2Ideal.τ).loc Cert.Kernel2Ideal.main_arg6)
      ∧ m' ((c.tc : Thread Cert.Reference2Ideal.nD Cert.Reference2Ideal.τ).loc Cert.Reference2Ideal.main_arg7) = m ((c.tc : Thread Cert.Kernel2Ideal.nD Cert.Kernel2Ideal.τ).loc Cert.Kernel2Ideal.main_arg7)
      ∧ m' ((c.tc : Thread Cert.Reference2Ideal.nD Cert.Reference2Ideal.τ).loc Cert.Reference2Ideal.main_arg8) = m ((c.tc : Thread Cert.Kernel2Ideal.nD Cert.Kernel2Ideal.τ).loc Cert.Kernel2Ideal.main_arg8)
      ∧ m' ((c.tc : Thread Cert.Reference2Ideal.nD Cert.Reference2Ideal.τ).loc Cert.Reference2Ideal.main_arg9) = m ((c.tc : Thread Cert.Kernel2Ideal.nD Cert.Kernel2Ideal.τ).loc Cert.Kernel2Ideal.main_arg9)
      ∧ m' ((c.tc : Thread Cert.Reference2Ideal.nD Cert.Reference2Ideal.τ).loc Cert.Reference2Ideal.main_arg10) = m ((c.tc : Thread Cert.Kernel2Ideal.nD Cert.Kernel2Ideal.τ).loc Cert.Kernel2Ideal.main_arg10)
      ∧ m' ((c.tc : Thread Cert.Reference2Ideal.nD Cert.Reference2Ideal.τ).loc Cert.Reference2Ideal.main_arg11) = m ((c.tc : Thread Cert.Kernel2Ideal.nD Cert.Kernel2Ideal.τ).loc Cert.Kernel2Ideal.main_arg11)
      ∧ m' ((c.tc : Thread Cert.Reference2Ideal.nD Cert.Reference2Ideal.τ).loc Cert.Reference2Ideal.main_arg12) = m ((c.tc : Thread Cert.Kernel2Ideal.nD Cert.Kernel2Ideal.τ).loc Cert.Kernel2Ideal.main_arg12)
      ∧ m' ((c.tc : Thread Cert.Reference2Ideal.nD Cert.Reference2Ideal.τ).loc Cert.Reference2Ideal.main_arg13) = m ((c.tc : Thread Cert.Kernel2Ideal.nD Cert.Kernel2Ideal.τ).loc Cert.Kernel2Ideal.main_arg13)
      ∧ m' ((c.tc : Thread Cert.Reference2Ideal.nD Cert.Reference2Ideal.τ).loc Cert.Reference2Ideal.main_arg14) = m ((c.tc : Thread Cert.Kernel2Ideal.nD Cert.Kernel2Ideal.τ).loc Cert.Kernel2Ideal.main_arg14)
      ∧ m' ((c.tc : Thread Cert.Reference2Ideal.nD Cert.Reference2Ideal.τ).loc Cert.Reference2Ideal.main_arg15) = m ((c.tc : Thread Cert.Kernel2Ideal.nD Cert.Kernel2Ideal.τ).loc Cert.Kernel2Ideal.main_arg15)
      ∧ m' ((c.tc : Thread Cert.Reference2Ideal.nD Cert.Reference2Ideal.τ).loc Cert.Reference2Ideal.main_arg16) = m ((c.tc : Thread Cert.Kernel2Ideal.nD Cert.Kernel2Ideal.τ).loc Cert.Kernel2Ideal.main_arg16)) →
    ∃ (v0 : (c : Dev Cert.Kernel2Ideal.nD) → Buf (Elt Ideal) ((c.tc : Thread Cert.Kernel2Ideal.nD Cert.Kernel2Ideal.τ).loc Cert.Kernel2Ideal.main_v8)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v8) = v0 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
          ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
          ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
          ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5)
          ∧ r.2.mem ((c.tc : Thread Cert.Kernel2Ideal.nD Cert.Kernel2Ideal.τ).loc Cert.Kernel2Ideal.main_arg6) = m ((c.tc : Thread Cert.Kernel2Ideal.nD Cert.Kernel2Ideal.τ).loc Cert.Kernel2Ideal.main_arg6)
          ∧ r.2.mem ((c.tc : Thread Cert.Kernel2Ideal.nD Cert.Kernel2Ideal.τ).loc Cert.Kernel2Ideal.main_arg7) = m ((c.tc : Thread Cert.Kernel2Ideal.nD Cert.Kernel2Ideal.τ).loc Cert.Kernel2Ideal.main_arg7)
          ∧ r.2.mem ((c.tc : Thread Cert.Kernel2Ideal.nD Cert.Kernel2Ideal.τ).loc Cert.Kernel2Ideal.main_arg8) = m ((c.tc : Thread Cert.Kernel2Ideal.nD Cert.Kernel2Ideal.τ).loc Cert.Kernel2Ideal.main_arg8)
          ∧ r.2.mem ((c.tc : Thread Cert.Kernel2Ideal.nD Cert.Kernel2Ideal.τ).loc Cert.Kernel2Ideal.main_arg9) = m ((c.tc : Thread Cert.Kernel2Ideal.nD Cert.Kernel2Ideal.τ).loc Cert.Kernel2Ideal.main_arg9)
          ∧ r.2.mem ((c.tc : Thread Cert.Kernel2Ideal.nD Cert.Kernel2Ideal.τ).loc Cert.Kernel2Ideal.main_arg10) = m ((c.tc : Thread Cert.Kernel2Ideal.nD Cert.Kernel2Ideal.τ).loc Cert.Kernel2Ideal.main_arg10)
          ∧ r.2.mem ((c.tc : Thread Cert.Kernel2Ideal.nD Cert.Kernel2Ideal.τ).loc Cert.Kernel2Ideal.main_arg11) = m ((c.tc : Thread Cert.Kernel2Ideal.nD Cert.Kernel2Ideal.τ).loc Cert.Kernel2Ideal.main_arg11)
          ∧ r.2.mem ((c.tc : Thread Cert.Kernel2Ideal.nD Cert.Kernel2Ideal.τ).loc Cert.Kernel2Ideal.main_arg12) = m ((c.tc : Thread Cert.Kernel2Ideal.nD Cert.Kernel2Ideal.τ).loc Cert.Kernel2Ideal.main_arg12)
          ∧ r.2.mem ((c.tc : Thread Cert.Kernel2Ideal.nD Cert.Kernel2Ideal.τ).loc Cert.Kernel2Ideal.main_arg13) = m ((c.tc : Thread Cert.Kernel2Ideal.nD Cert.Kernel2Ideal.τ).loc Cert.Kernel2Ideal.main_arg13)
          ∧ r.2.mem ((c.tc : Thread Cert.Kernel2Ideal.nD Cert.Kernel2Ideal.τ).loc Cert.Kernel2Ideal.main_arg14) = m ((c.tc : Thread Cert.Kernel2Ideal.nD Cert.Kernel2Ideal.τ).loc Cert.Kernel2Ideal.main_arg14)
          ∧ r.2.mem ((c.tc : Thread Cert.Kernel2Ideal.nD Cert.Kernel2Ideal.τ).loc Cert.Kernel2Ideal.main_arg15) = m ((c.tc : Thread Cert.Kernel2Ideal.nD Cert.Kernel2Ideal.τ).loc Cert.Kernel2Ideal.main_arg15)
          ∧ r.2.mem ((c.tc : Thread Cert.Kernel2Ideal.nD Cert.Kernel2Ideal.τ).loc Cert.Kernel2Ideal.main_arg16) = m ((c.tc : Thread Cert.Kernel2Ideal.nD Cert.Kernel2Ideal.τ).loc Cert.Kernel2Ideal.main_arg16))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v112) = v0 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2)
          ∧ r.2.mem ((c.tc : Thread Cert.Reference2Ideal.nD Cert.Reference2Ideal.τ).loc Cert.Reference2Ideal.main_arg3) = m' ((c.tc : Thread Cert.Reference2Ideal.nD Cert.Reference2Ideal.τ).loc Cert.Reference2Ideal.main_arg3)
          ∧ r.2.mem ((c.tc : Thread Cert.Reference2Ideal.nD Cert.Reference2Ideal.τ).loc Cert.Reference2Ideal.main_arg4) = m' ((c.tc : Thread Cert.Reference2Ideal.nD Cert.Reference2Ideal.τ).loc Cert.Reference2Ideal.main_arg4)
          ∧ r.2.mem ((c.tc : Thread Cert.Reference2Ideal.nD Cert.Reference2Ideal.τ).loc Cert.Reference2Ideal.main_arg5) = m' ((c.tc : Thread Cert.Reference2Ideal.nD Cert.Reference2Ideal.τ).loc Cert.Reference2Ideal.main_arg5)
          ∧ r.2.mem ((c.tc : Thread Cert.Reference2Ideal.nD Cert.Reference2Ideal.τ).loc Cert.Reference2Ideal.main_arg6) = m' ((c.tc : Thread Cert.Reference2Ideal.nD Cert.Reference2Ideal.τ).loc Cert.Reference2Ideal.main_arg6)
          ∧ r.2.mem ((c.tc : Thread Cert.Reference2Ideal.nD Cert.Reference2Ideal.τ).loc Cert.Reference2Ideal.main_arg7) = m' ((c.tc : Thread Cert.Reference2Ideal.nD Cert.Reference2Ideal.τ).loc Cert.Reference2Ideal.main_arg7)
          ∧ r.2.mem ((c.tc : Thread Cert.Reference2Ideal.nD Cert.Reference2Ideal.τ).loc Cert.Reference2Ideal.main_arg8) = m' ((c.tc : Thread Cert.Reference2Ideal.nD Cert.Reference2Ideal.τ).loc Cert.Reference2Ideal.main_arg8)
          ∧ r.2.mem ((c.tc : Thread Cert.Reference2Ideal.nD Cert.Reference2Ideal.τ).loc Cert.Reference2Ideal.main_arg9) = m' ((c.tc : Thread Cert.Reference2Ideal.nD Cert.Reference2Ideal.τ).loc Cert.Reference2Ideal.main_arg9)
          ∧ r.2.mem ((c.tc : Thread Cert.Reference2Ideal.nD Cert.Reference2Ideal.τ).loc Cert.Reference2Ideal.main_arg10) = m' ((c.tc : Thread Cert.Reference2Ideal.nD Cert.Reference2Ideal.τ).loc Cert.Reference2Ideal.main_arg10)
          ∧ r.2.mem ((c.tc : Thread Cert.Reference2Ideal.nD Cert.Reference2Ideal.τ).loc Cert.Reference2Ideal.main_arg11) = m' ((c.tc : Thread Cert.Reference2Ideal.nD Cert.Reference2Ideal.τ).loc Cert.Reference2Ideal.main_arg11)
          ∧ r.2.mem ((c.tc : Thread Cert.Reference2Ideal.nD Cert.Reference2Ideal.τ).loc Cert.Reference2Ideal.main_arg12) = m' ((c.tc : Thread Cert.Reference2Ideal.nD Cert.Reference2Ideal.τ).loc Cert.Reference2Ideal.main_arg12)
          ∧ r.2.mem ((c.tc : Thread Cert.Reference2Ideal.nD Cert.Reference2Ideal.τ).loc Cert.Reference2Ideal.main_arg13) = m' ((c.tc : Thread Cert.Reference2Ideal.nD Cert.Reference2Ideal.τ).loc Cert.Reference2Ideal.main_arg13)
          ∧ r.2.mem ((c.tc : Thread Cert.Reference2Ideal.nD Cert.Reference2Ideal.τ).loc Cert.Reference2Ideal.main_arg14) = m' ((c.tc : Thread Cert.Reference2Ideal.nD Cert.Reference2Ideal.τ).loc Cert.Reference2Ideal.main_arg14)
          ∧ r.2.mem ((c.tc : Thread Cert.Reference2Ideal.nD Cert.Reference2Ideal.τ).loc Cert.Reference2Ideal.main_arg15) = m' ((c.tc : Thread Cert.Reference2Ideal.nD Cert.Reference2Ideal.τ).loc Cert.Reference2Ideal.main_arg15)
          ∧ r.2.mem ((c.tc : Thread Cert.Reference2Ideal.nD Cert.Reference2Ideal.τ).loc Cert.Reference2Ideal.main_arg16) = m' ((c.tc : Thread Cert.Reference2Ideal.nD Cert.Reference2Ideal.τ).loc Cert.Reference2Ideal.main_arg16))

def preserves_Kernel3_Kernel3Ideal : Prop :=
  True

def algebraic_Kernel3Ideal_Reference3Ideal [hKernel3Ideal : Cert.Kernel3Ideal.Facts] [hReference3Ideal : Cert.Reference3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)) →
    ∃ (v0 : (c : Dev Cert.Kernel3Ideal.nD) → Buf (Elt Ideal) ((c.tc : Thread Cert.Kernel3Ideal.nD Cert.Kernel3Ideal.τ).loc Cert.Kernel3Ideal.main_v19_0)) (v1 : (c : Dev Cert.Kernel3Ideal.nD) → Buf (Elt Ideal) ((c.tc : Thread Cert.Kernel3Ideal.nD Cert.Kernel3Ideal.τ).loc Cert.Kernel3Ideal.main_v19_1)) (v2 : (c : Dev Cert.Kernel3Ideal.nD) → Buf (Elt Ideal) ((c.tc : Thread Cert.Kernel3Ideal.nD Cert.Kernel3Ideal.τ).loc Cert.Kernel3Ideal.main_v19_2)) (v3 : (c : Dev Cert.Kernel3Ideal.nD) → Buf (Elt Ideal) ((c.tc : Thread Cert.Kernel3Ideal.nD Cert.Kernel3Ideal.τ).loc Cert.Kernel3Ideal.main_v19_3)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v19_0) = v0 c
          ∧ r.2.mem ((c.tc : Thread Cert.Kernel3Ideal.nD Cert.Kernel3Ideal.τ).loc Cert.Kernel3Ideal.main_v19_1) = v1 c
          ∧ r.2.mem ((c.tc : Thread Cert.Kernel3Ideal.nD Cert.Kernel3Ideal.τ).loc Cert.Kernel3Ideal.main_v19_2) = v2 c
          ∧ r.2.mem ((c.tc : Thread Cert.Kernel3Ideal.nD Cert.Kernel3Ideal.τ).loc Cert.Kernel3Ideal.main_v19_3) = v3 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v85) = v0 c
          ∧ r.2.mem ((c.tc : Thread Cert.Reference3Ideal.nD Cert.Reference3Ideal.τ).loc Cert.Reference3Ideal.main_v156) = v1 c
          ∧ r.2.mem ((c.tc : Thread Cert.Reference3Ideal.nD Cert.Reference3Ideal.τ).loc Cert.Reference3Ideal.main_v157) = v2 c
          ∧ r.2.mem ((c.tc : Thread Cert.Reference3Ideal.nD Cert.Reference3Ideal.τ).loc Cert.Reference3Ideal.main_v158) = v3 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1))

def Claim : Prop :=
  ∃ (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts),
    quiescent_Kernel2 (hKernel2 := hKernel2)
    ∧ quiescent_Kernel2Ideal (hKernel2Ideal := hKernel2Ideal)
    ∧ quiescent_Reference2Ideal (hReference2Ideal := hReference2Ideal)
    ∧ quiescent_Kernel3 (hKernel3 := hKernel3)
    ∧ quiescent_Kernel3Ideal (hKernel3Ideal := hKernel3Ideal)
    ∧ quiescent_Reference3Ideal (hReference3Ideal := hReference3Ideal)
    ∧ preserves_Kernel2_Kernel2Ideal
    ∧ algebraic_Kernel2Ideal_Reference2Ideal (hKernel2Ideal := hKernel2Ideal) (hReference2Ideal := hReference2Ideal)
    ∧ preserves_Kernel3_Kernel3Ideal
    ∧ algebraic_Kernel3Ideal_Reference3Ideal (hKernel3Ideal := hKernel3Ideal) (hReference3Ideal := hReference3Ideal)
-- ==== Kernel2.lean ====
abbrev S8x2048x1024 : Shape := ⟨3, ![8, 2048, 1024]⟩
abbrev S8x2048x512 : Shape := ⟨3, ![8, 2048, 512]⟩
abbrev S1024x1024 : Shape := ⟨2, ![1024, 1024]⟩
abbrev S2x1024 : Shape := ⟨2, ![2, 1024]⟩
abbrev S512x1024 : Shape := ⟨2, ![512, 1024]⟩
abbrev S1024 : Shape := ⟨1, ![1024]⟩
abbrev S1024x2816 : Shape := ⟨2, ![1024, 2816]⟩
abbrev S2816x1024 : Shape := ⟨2, ![2816, 1024]⟩
abbrev S16384x1024 : Shape := ⟨2, ![16384, 1024]⟩
abbrev S16384x512 : Shape := ⟨2, ![16384, 512]⟩
abbrev S1x2048 : Shape := ⟨2, ![1, 2048]⟩
abbrev S1x1024 : Shape := ⟨2, ![1, 1024]⟩
abbrev S512x512 : Shape := ⟨2, ![512, 512]⟩
abbrev S256x512 : Shape := ⟨2, ![256, 512]⟩
abbrev S256x1024 : Shape := ⟨2, ![256, 1024]⟩
abbrev S256 : Shape := ⟨1, ![256]⟩
abbrev S256x1 : Shape := ⟨2, ![256, 1]⟩
abbrev S256x2816 : Shape := ⟨2, ![256, 2816]⟩

abbrev nBuf : Space → Nat
  | .hbm => 26
  | .vmem => 22
  | .smem => 0
  | _ => 0

abbrev bufTy : (tb : Table) → Fin (tcTables nBuf tb) → BufTy
  | .hbm, ⟨0, _⟩ => ⟨S8x2048x1024, .f32⟩
  | .hbm, ⟨1, _⟩ => ⟨S8x2048x512, .bf16⟩
  | .hbm, ⟨2, _⟩ => ⟨S8x2048x512, .bf16⟩
  | .hbm, ⟨3, _⟩ => ⟨S1024x1024, .bf16⟩
  | .hbm, ⟨4, _⟩ => ⟨S1024x1024, .bf16⟩
  | .hbm, ⟨5, _⟩ => ⟨S2x1024, .f32⟩
  | .hbm, ⟨6, _⟩ => ⟨S512x1024, .bf16⟩
  | .hbm, ⟨7, _⟩ => ⟨S512x1024, .bf16⟩
  | .hbm, ⟨8, _⟩ => ⟨S512x1024, .bf16⟩
  | .hbm, ⟨9, _⟩ => ⟨S1024x1024, .bf16⟩
  | .hbm, ⟨10, _⟩ => ⟨S1024, .f32⟩
  | .hbm, ⟨11, _⟩ => ⟨S1024, .f32⟩
  | .hbm, ⟨12, _⟩ => ⟨S1024x2816, .bf16⟩
  | .hbm, ⟨13, _⟩ => ⟨S1024x2816, .bf16⟩
  | .hbm, ⟨14, _⟩ => ⟨S2816x1024, .bf16⟩
  | .hbm, ⟨15, _⟩ => ⟨S1024, .f32⟩
  | .hbm, ⟨16, _⟩ => ⟨S1024, .f32⟩
  | .hbm, ⟨17, _⟩ => ⟨S16384x1024, .f32⟩
  | .hbm, ⟨18, _⟩ => ⟨S16384x512, .bf16⟩
  | .hbm, ⟨19, _⟩ => ⟨S16384x512, .bf16⟩
  | .hbm, ⟨20, _⟩ => ⟨S1x2048, .f32⟩
  | .hbm, ⟨21, _⟩ => ⟨S1x1024, .f32⟩
  | .hbm, ⟨22, _⟩ => ⟨S1x1024, .f32⟩
  | .hbm, ⟨23, _⟩ => ⟨S1x1024, .f32⟩
  | .hbm, ⟨24, _⟩ => ⟨S1x1024, .f32⟩
  | .hbm, ⟨25, _⟩ => ⟨S16384x1024, .f32⟩
  | .local _ .vmem, ⟨0, _⟩ => ⟨S512x1024, .f32⟩
  | .local _ .vmem, ⟨1, _⟩ => ⟨S512x1024, .f32⟩
  | .local _ .vmem, ⟨2, _⟩ => ⟨S512x512, .bf16⟩
  | .local _ .vmem, ⟨3, _⟩ => ⟨S512x512, .bf16⟩
  | .local _ .vmem, ⟨4, _⟩ => ⟨S512x512, .bf16⟩
  | .local _ .vmem, ⟨5, _⟩ => ⟨S512x512, .bf16⟩
  | .local _ .vmem, ⟨6, _⟩ => ⟨S1024x1024, .bf16⟩
  | .local _ .vmem, ⟨7, _⟩ => ⟨S1024x1024, .bf16⟩
  | .local _ .vmem, ⟨8, _⟩ => ⟨S1x2048, .f32⟩
  | .local _ .vmem, ⟨9, _⟩ => ⟨S512x1024, .bf16⟩
  | .local _ .vmem, ⟨10, _⟩ => ⟨S512x1024, .bf16⟩
  | .local _ .vmem, ⟨11, _⟩ => ⟨S512x1024, .bf16⟩
  | .local _ .vmem, ⟨12, _⟩ => ⟨S1024x1024, .bf16⟩
  | .local _ .vmem, ⟨13, _⟩ => ⟨S1x1024, .f32⟩
  | .local _ .vmem, ⟨14, _⟩ => ⟨S1x1024, .f32⟩
  | .local _ .vmem, ⟨15, _⟩ => ⟨S1024x2816, .bf16⟩
  | .local _ .vmem, ⟨16, _⟩ => ⟨S1024x2816, .bf16⟩
  | .local _ .vmem, ⟨17, _⟩ => ⟨S2816x1024, .bf16⟩
  | .local _ .vmem, ⟨18, _⟩ => ⟨S1x1024, .f32⟩
  | .local _ .vmem, ⟨19, _⟩ => ⟨S1x1024, .f32⟩
  | .local _ .vmem, ⟨20, _⟩ => ⟨S512x1024, .f32⟩
  | .local _ .vmem, ⟨21, _⟩ => ⟨S512x1024, .f32⟩
  | _, _ => ⟨S8x2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | _, _ => false

abbrev semScoped : Fin 0 → Bool
  | ⟨_, h⟩ => absurd h (Nat.not_lt_zero _)

abbrev dmaSemScoped : Fin 22 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | _ => false

abbrev sig : RefSig :=
  ofTc nBuf bufTy 0 22 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_v0 : Ref sig .tc := ⟨.hbm, 17, rfl⟩
abbrev main_v1 : Ref sig .tc := ⟨.hbm, 18, rfl⟩
abbrev main_v2 : Ref sig .tc := ⟨.hbm, 19, rfl⟩
abbrev main_v3 : Ref sig .tc := ⟨.hbm, 20, rfl⟩
abbrev main_v4 : Ref sig .tc := ⟨.hbm, 21, rfl⟩
abbrev main_v5 : Ref sig .tc := ⟨.hbm, 22, rfl⟩
abbrev main_v6 : Ref sig .tc := ⟨.hbm, 23, rfl⟩
abbrev main_v7 : Ref sig .tc := ⟨.hbm, 24, rfl⟩
abbrev main_v8 : Ref sig .tc := ⟨.hbm, 25, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg8_0 : Ref sig .tc := ⟨.vmem, 11, rfl⟩
abbrev cc0_stg9_0 : Ref sig .tc := ⟨.vmem, 12, rfl⟩
abbrev cc0_stg10_0 : Ref sig .tc := ⟨.vmem, 13, rfl⟩
abbrev cc0_stg11_0 : Ref sig .tc := ⟨.vmem, 14, rfl⟩
abbrev cc0_stg12_0 : Ref sig .tc := ⟨.vmem, 15, rfl⟩
abbrev cc0_stg13_0 : Ref sig .tc := ⟨.vmem, 16, rfl⟩
abbrev cc0_stg14_0 : Ref sig .tc := ⟨.vmem, 17, rfl⟩
abbrev cc0_stg15_0 : Ref sig .tc := ⟨.vmem, 18, rfl⟩
abbrev cc0_stg16_0 : Ref sig .tc := ⟨.vmem, 19, rfl⟩
abbrev cc0_stg17_0 : Ref sig .tc := ⟨.vmem, 20, rfl⟩
abbrev cc0_stg17_1 : Ref sig .tc := ⟨.vmem, 21, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem7_0 : DmaSem sig := 10
abbrev cc0_sem8_0 : DmaSem sig := 11
abbrev cc0_sem9_0 : DmaSem sig := 12
abbrev cc0_sem10_0 : DmaSem sig := 13
abbrev cc0_sem11_0 : DmaSem sig := 14
abbrev cc0_sem12_0 : DmaSem sig := 15
abbrev cc0_sem13_0 : DmaSem sig := 16
abbrev cc0_sem14_0 : DmaSem sig := 17
abbrev cc0_sem15_0 : DmaSem sig := 18
abbrev cc0_sem16_0 : DmaSem sig := 19
abbrev cc0_sem17_0 : DmaSem sig := 20
abbrev cc0_sem17_1 : DmaSem sig := 21

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_14 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_15 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_16 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_17 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1024x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1024x1024 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x2048 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S512x1024 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S512x1024 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S512x1024 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S1024x1024 .bf16 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S1x1024 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S1x1024 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 1 → Memref sig .tc .vmem S1024x2816 .bf16 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]

abbrev stage0_13 : Fin 1 → Memref sig .tc .vmem S1024x2816 .bf16 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false]

abbrev stage0_14 : Fin 1 → Memref sig .tc .vmem S2816x1024 .bf16 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))
abbrev reads0_14 : Fin grid0.rank → Bool := ![false]

abbrev stage0_15 : Fin 1 → Memref sig .tc .vmem S1x1024 .f32 := fun | 0 => Memref.whole cc0_stg15_0 | ⟨_ + 1, h⟩ => absurd h (Nat.not_lt.2 (Nat.le_add_left _ _))
abbrev sem0_15 : Fin 1 → DmaSem sig := fun | 0 => cc0_sem15_0 | ⟨_ + 1, h⟩ => absurd h (Nat.not_lt.2 (Nat.le_add_left _ _))
abbrev reads0_15 : Fin grid0.rank → Bool := ![false]

abbrev stage0_16 : Fin 1 → Memref sig .tc .vmem S1x1024 .f32 := fun | 0 => Memref.whole cc0_stg16_0 | ⟨_ + 1, h⟩ => absurd h (Nat.not_lt.2 (Nat.le_add_left _ _))
abbrev sem0_16 : Fin 1 → DmaSem sig := fun | 0 => cc0_sem16_0 | ⟨_ + 1, h⟩ => absurd h (Nat.not_lt.2 (Nat.le_add_left _ _))
abbrev reads0_16 : Fin grid0.rank → Bool := ![false]

abbrev stage0_17 : Fin 2 → Memref sig .tc .vmem S512x1024 .f32 := fun | 0 => Memref.whole cc0_stg17_0 | 1 => Memref.whole cc0_stg17_1 | ⟨_ + 2, h⟩ => absurd h (Nat.not_lt.2 (Nat.le_add_left _ _))
abbrev sem0_17 : Fin 2 → DmaSem sig := fun | 0 => cc0_sem17_0 | 1 => cc0_sem17_1 | ⟨_ + 2, h⟩ => absurd h (Nat.not_lt.2 (Nat.le_add_left _ _))
abbrev reads0_17 : Fin grid0.rank → Bool := ![true]
-- ==== Reference2Ideal.lean ====
abbrev S8x2048x1024 : Shape := ⟨3, ![8, 2048, 1024]⟩
abbrev S8x2048x512 : Shape := ⟨3, ![8, 2048, 512]⟩
abbrev S1024x1024 : Shape := ⟨2, ![1024, 1024]⟩
abbrev S2x1024 : Shape := ⟨2, ![2, 1024]⟩
abbrev S512x1024 : Shape := ⟨2, ![512, 1024]⟩
abbrev S1024 : Shape := ⟨1, ![1024]⟩
abbrev S1024x2816 : Shape := ⟨2, ![1024, 2816]⟩
abbrev S2816x1024 : Shape := ⟨2, ![2816, 1024]⟩
abbrev S16384x1024 : Shape := ⟨2, ![16384, 1024]⟩
abbrev S16384x512 : Shape := ⟨2, ![16384, 512]⟩
abbrev S_ : Shape := ⟨0, ![]⟩
abbrev S1x1024 : Shape := ⟨2, ![1, 1024]⟩
abbrev S16384 : Shape := ⟨1, ![16384]⟩
abbrev S16384x1 : Shape := ⟨2, ![16384, 1]⟩
abbrev S16384x2816 : Shape := ⟨2, ![16384, 2816]⟩

abbrev nBuf : Space → Nat
  | .hbm => 156
  | .vmem => 0
  | .smem => 0
  | _ => 0

abbrev hbmTy0_0 (i : Nat) : BufTy := match i % 128 with
  | 0 => ⟨S8x2048x1024, .f32⟩
  | 1 => ⟨S8x2048x512, .bf16⟩
  | 2 => ⟨S8x2048x512, .bf16⟩
  | 3 => ⟨S1024x1024, .bf16⟩
  | 4 => ⟨S1024x1024, .bf16⟩
  | 5 => ⟨S2x1024, .f32⟩
  | 6 => ⟨S512x1024, .bf16⟩
  | 7 => ⟨S512x1024, .bf16⟩
  | 8 => ⟨S512x1024, .bf16⟩
  | 9 => ⟨S1024x1024, .bf16⟩
  | 10 => ⟨S1024, .f32⟩
  | 11 => ⟨S1024, .f32⟩
  | 12 => ⟨S1024x2816, .bf16⟩
  | 13 => ⟨S1024x2816, .bf16⟩
  | 14 => ⟨S2816x1024, .bf16⟩
  | 15 => ⟨S1024, .f32⟩
  | 16 => ⟨S1024, .f32⟩
  | 17 => ⟨S16384x1024, .f32⟩
  | 18 => ⟨S8x2048x512, .f32⟩
  | 19 => ⟨S16384x512, .f32⟩
  | 20 => ⟨S512x1024, .f32⟩
  | 21 => ⟨S16384x1024, .f32⟩
  | 22 => ⟨S8x2048x512, .f32⟩
  | 23 => ⟨S16384x512, .f32⟩
  | 24 => ⟨S512x1024, .f32⟩
  | 25 => ⟨S16384x1024, .f32⟩
  | 26 => ⟨S16384x512, .f32⟩
  | 27 => ⟨S16384x512, .f32⟩
  | 28 => ⟨S16384x512, .f32⟩
  | 29 => ⟨S16384x512, .f32⟩
  | 30 => ⟨S_, .f32⟩
  | 31 => ⟨S16384x512, .f32⟩
  | 32 => ⟨S16384x512, .f32⟩
  | 33 => ⟨S_, .f32⟩
  | 34 => ⟨S16384x512, .f32⟩
  | 35 => ⟨S16384x512, .f32⟩
  | 36 => ⟨S16384x512, .f32⟩
  | 37 => ⟨S512x1024, .f32⟩
  | 38 => ⟨S16384x1024, .f32⟩
  | 39 => ⟨S1024x1024, .f32⟩
  | 40 => ⟨S16384x1024, .f32⟩
  | 41 => ⟨S1x1024, .f32⟩
  | 42 => ⟨S1024, .f32⟩
  | 43 => ⟨S1x1024, .f32⟩
  | 44 => ⟨S16384x1024, .f32⟩
  | 45 => ⟨S16384x1024, .f32⟩
  | 46 => ⟨S16384x1024, .f32⟩
  | 47 => ⟨S16384x1024, .f32⟩
  | 48 => ⟨S_, .f32⟩
  | 49 => ⟨S16384x1024, .f32⟩
  | 50 => ⟨S16384x1024, .f32⟩
  | 51 => ⟨S_, .f32⟩
  | 52 => ⟨S16384x1024, .f32⟩
  | 53 => ⟨S16384x1024, .f32⟩
  | 54 => ⟨S1024x1024, .f32⟩
  | 55 => ⟨S16384x1024, .f32⟩
  | 56 => ⟨S1x1024, .f32⟩
  | 57 => ⟨S1024, .f32⟩
  | 58 => ⟨S1x1024, .f32⟩
  | 59 => ⟨S16384x1024, .f32⟩
  | 60 => ⟨S16384x1024, .f32⟩
  | 61 => ⟨S16384x1024, .f32⟩
  | 62 => ⟨S16384x1024, .f32⟩
  | 63 => ⟨S_, .f32⟩
  | 64 => ⟨S16384x1024, .f32⟩
  | 65 => ⟨S16384x1024, .f32⟩
  | 66 => ⟨S_, .f32⟩
  | 67 => ⟨S16384x1024, .f32⟩
  | 68 => ⟨S16384x1024, .f32⟩
  | 69 => ⟨S16384x1024, .f32⟩
  | 70 => ⟨S16384x1024, .f32⟩
  | 71 => ⟨S16384x1024, .f32⟩
  | 72 => ⟨S1024x1024, .f32⟩
  | 73 => ⟨S16384x1024, .f32⟩
  | 74 => ⟨S_, .f32⟩
  | 75 => ⟨S16384x1024, .f32⟩
  | 76 => ⟨S16384x1024, .f32⟩
  | 77 => ⟨S16384x1024, .f32⟩
  | 78 => ⟨S_, .f32⟩
  | 79 => ⟨S16384, .f32⟩
  | 80 => ⟨S16384x1, .f32⟩
  | 81 => ⟨S_, .f32⟩
  | 82 => ⟨S16384x1, .f32⟩
  | 83 => ⟨S16384x1, .f32⟩
  | 84 => ⟨S16384x1024, .f32⟩
  | 85 => ⟨S16384x1024, .f32⟩
  | 86 => ⟨S16384x1024, .f32⟩
  | 87 => ⟨S_, .f32⟩
  | 88 => ⟨S16384, .f32⟩
  | 89 => ⟨S16384x1, .f32⟩
  | 90 => ⟨S_, .f32⟩
  | 91 => ⟨S16384x1, .f32⟩
  | 92 => ⟨S16384x1, .f32⟩
  | 93 => ⟨S16384x1024, .f32⟩
  | 94 => ⟨S16384x1024, .f32⟩
  | 95 => ⟨S_, .f32⟩
  | 96 => ⟨S16384x1, .f32⟩
  | 97 => ⟨S16384x1, .f32⟩
  | 98 => ⟨S16384x1, .f32⟩
  | 99 => ⟨S16384x1024, .f32⟩
  | 100 => ⟨S16384x1024, .f32⟩
  | 101 => ⟨S1x1024, .f32⟩
  | 102 => ⟨S16384x1024, .f32⟩
  | 103 => ⟨S16384x1024, .f32⟩
  | 104 => ⟨S1x1024, .f32⟩
  | 105 => ⟨S16384x1024, .f32⟩
  | 106 => ⟨S16384x1024, .f32⟩
  | 107 => ⟨S1024x2816, .f32⟩
  | 108 => ⟨S16384x2816, .f32⟩
  | 109 => ⟨S16384x2816, .f32⟩
  | 110 => ⟨S16384x2816, .f32⟩
  | 111 => ⟨S_, .f32⟩
  | 112 => ⟨S16384x2816, .f32⟩
  | 113 => ⟨S16384x2816, .f32⟩
  | 114 => ⟨S_, .f32⟩
  | 115 => ⟨S16384x2816, .f32⟩
  | 116 => ⟨S16384x2816, .f32⟩
  | 117 => ⟨S16384x2816, .f32⟩
  | 118 => ⟨S1024x2816, .f32⟩
  | 119 => ⟨S16384x2816, .f32⟩
  | 120 => ⟨S16384x2816, .f32⟩
  | 121 => ⟨S2816x1024, .f32⟩
  | 122 => ⟨S16384x1024, .f32⟩
  | 123 => ⟨S_, .f32⟩
  | 124 => ⟨S16384x1024, .f32⟩
  | 125 => ⟨S16384x1024, .f32⟩
  | 126 => ⟨S16384x1024, .f32⟩
  | 127 => ⟨S_, .f32⟩
  | _ => ⟨S8x2048x1024, .f32⟩

abbrev hbmTy0_1 (i : Nat) : BufTy := match i % 128 with
  | 0 => ⟨S16384, .f32⟩
  | 1 => ⟨S16384x1, .f32⟩
  | 2 => ⟨S_, .f32⟩
  | 3 => ⟨S16384x1, .f32⟩
  | 4 => ⟨S16384x1, .f32⟩
  | 5 => ⟨S16384x1024, .f32⟩
  | 6 => ⟨S16384x1024, .f32⟩
  | 7 => ⟨S16384x1024, .f32⟩
  | 8 => ⟨S_, .f32⟩
  | 9 => ⟨S16384, .f32⟩
  | 10 => ⟨S16384x1, .f32⟩
  | 11 => ⟨S_, .f32⟩
  | 12 => ⟨S16384x1, .f32⟩
  | 13 => ⟨S16384x1, .f32⟩
  | 14 => ⟨S16384x1024, .f32⟩
  | 15 => ⟨S16384x1024, .f32⟩
  | 16 => ⟨S_, .f32⟩
  | 17 => ⟨S16384x1, .f32⟩
  | 18 => ⟨S16384x1, .f32⟩
  | 19 => ⟨S16384x1, .f32⟩
  | 20 => ⟨S16384x1024, .f32⟩
  | 21 => ⟨S16384x1024, .f32⟩
  | 22 => ⟨S1x1024, .f32⟩
  | 23 => ⟨S16384x1024, .f32⟩
  | 24 => ⟨S16384x1024, .f32⟩
  | 25 => ⟨S1x1024, .f32⟩
  | 26 => ⟨S16384x1024, .f32⟩
  | 27 => ⟨S16384x1024, .f32⟩
  | _ => ⟨S8x2048x1024, .f32⟩

abbrev hbmTy (i : Nat) : BufTy := match i / 128 with
  | 0 => hbmTy0_0 i
  | 1 => hbmTy0_1 i
  | _ => ⟨S8x2048x1024, .f32⟩

abbrev bufTy : (tb : Table) → Fin (tcTables nBuf tb) → BufTy
  | .hbm, ⟨i, _⟩ => hbmTy i
  | _, _ => ⟨S8x2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_v0 : Ref sig .tc := ⟨.hbm, 17, rfl⟩
abbrev main_v1 : Ref sig .tc := ⟨.hbm, 18, rfl⟩
abbrev main_v2 : Ref sig .tc := ⟨.hbm, 19, rfl⟩
abbrev main_v3 : Ref sig .tc := ⟨.hbm, 20, rfl⟩
abbrev main_v4 : Ref sig .tc := ⟨.hbm, 21, rfl⟩
abbrev main_v5 : Ref sig .tc := ⟨.hbm, 22, rfl⟩
abbrev main_v6 : Ref sig .tc := ⟨.hbm, 23, rfl⟩
abbrev main_v7 : Ref sig .tc := ⟨.hbm, 24, rfl⟩
abbrev main_v8 : Ref sig .tc := ⟨.hbm, 25, rfl⟩
abbrev main_v9 : Ref sig .tc := ⟨.hbm, 26, rfl⟩
abbrev main_v10 : Ref sig .tc := ⟨.hbm, 27, rfl⟩
abbrev main_v11 : Ref sig .tc := ⟨.hbm, 28, rfl⟩
abbrev main_v12 : Ref sig .tc := ⟨.hbm, 29, rfl⟩
abbrev main_cst : Ref sig .tc := ⟨.hbm, 30, rfl⟩
abbrev main_v13 : Ref sig .tc := ⟨.hbm, 31, rfl⟩
abbrev main_v14 : Ref sig .tc := ⟨.hbm, 32, rfl⟩
abbrev main_cst_0 : Ref sig .tc := ⟨.hbm, 33, rfl⟩
abbrev main_v15 : Ref sig .tc := ⟨.hbm, 34, rfl⟩
abbrev main_v16 : Ref sig .tc := ⟨.hbm, 35, rfl⟩
abbrev main_v17 : Ref sig .tc := ⟨.hbm, 36, rfl⟩
abbrev main_v18 : Ref sig .tc := ⟨.hbm, 37, rfl⟩
abbrev main_v19 : Ref sig .tc := ⟨.hbm, 38, rfl⟩
abbrev main_v20 : Ref sig .tc := ⟨.hbm, 39, rfl⟩
abbrev main_v21 : Ref sig .tc := ⟨.hbm, 40, rfl⟩
abbrev main_v22 : Ref sig .tc := ⟨.hbm, 41, rfl⟩
abbrev main_v23 : Ref sig .tc := ⟨.hbm, 42, rfl⟩
abbrev main_v24 : Ref sig .tc := ⟨.hbm, 43, rfl⟩
abbrev main_v25 : Ref sig .tc := ⟨.hbm, 44, rfl⟩
abbrev main_v26 : Ref sig .tc := ⟨.hbm, 45, rfl⟩
abbrev main_v27 : Ref sig .tc := ⟨.hbm, 46, rfl⟩
abbrev main_v28 : Ref sig .tc := ⟨.hbm, 47, rfl⟩
abbrev main_cst_1 : Ref sig .tc := ⟨.hbm, 48, rfl⟩
abbrev main_v29 : Ref sig .tc := ⟨.hbm, 49, rfl⟩
abbrev main_v30 : Ref sig .tc := ⟨.hbm, 50, rfl⟩
abbrev main_cst_2 : Ref sig .tc := ⟨.hbm, 51, rfl⟩
abbrev main_v31 : Ref sig .tc := ⟨.hbm, 52, rfl⟩
abbrev main_v32 : Ref sig .tc := ⟨.hbm, 53, rfl⟩
abbrev main_v33 : Ref sig .tc := ⟨.hbm, 54, rfl⟩
abbrev main_v34 : Ref sig .tc := ⟨.hbm, 55, rfl⟩
abbrev main_v35 : Ref sig .tc := ⟨.hbm, 56, rfl⟩
abbrev main_v36 : Ref sig .tc := ⟨.hbm, 57, rfl⟩
abbrev main_v37 : Ref sig .tc := ⟨.hbm, 58, rfl⟩
abbrev main_v38 : Ref sig .tc := ⟨.hbm, 59, rfl⟩
abbrev main_v39 : Ref sig .tc := ⟨.hbm, 60, rfl⟩
abbrev main_v40 : Ref sig .tc := ⟨.hbm, 61, rfl⟩
abbrev main_v41 : Ref sig .tc := ⟨.hbm, 62, rfl⟩
abbrev main_cst_3 : Ref sig .tc := ⟨.hbm, 63, rfl⟩
abbrev main_v42 : Ref sig .tc := ⟨.hbm, 64, rfl⟩
abbrev main_v43 : Ref sig .tc := ⟨.hbm, 65, rfl⟩
abbrev main_cst_4 : Ref sig .tc := ⟨.hbm, 66, rfl⟩
abbrev main_v44 : Ref sig .tc := ⟨.hbm, 67, rfl⟩
abbrev main_v45 : Ref sig .tc := ⟨.hbm, 68, rfl⟩
abbrev main_v46 : Ref sig .tc := ⟨.hbm, 69, rfl⟩
abbrev main_v47 : Ref sig .tc := ⟨.hbm, 70, rfl⟩
abbrev main_v48 : Ref sig .tc := ⟨.hbm, 71, rfl⟩
abbrev main_v49 : Ref sig .tc := ⟨.hbm, 72, rfl⟩
abbrev main_v50 : Ref sig .tc := ⟨.hbm, 73, rfl⟩
abbrev main_cst_5 : Ref sig .tc := ⟨.hbm, 74, rfl⟩
abbrev main_v51 : Ref sig .tc := ⟨.hbm, 75, rfl⟩
abbrev main_v52 : Ref sig .tc := ⟨.hbm, 76, rfl⟩
abbrev main_v53 : Ref sig .tc := ⟨.hbm, 77, rfl⟩
abbrev main_cst_6 : Ref sig .tc := ⟨.hbm, 78, rfl⟩
abbrev main_v54 : Ref sig .tc := ⟨.hbm, 79, rfl⟩
abbrev main_v55 : Ref sig .tc := ⟨.hbm, 80, rfl⟩
abbrev main_cst_7 : Ref sig .tc := ⟨.hbm, 81, rfl⟩
abbrev main_v56 : Ref sig .tc := ⟨.hbm, 82, rfl⟩
abbrev main_v57 : Ref sig .tc := ⟨.hbm, 83, rfl⟩
abbrev main_v58 : Ref sig .tc := ⟨.hbm, 84, rfl⟩
abbrev main_v59 : Ref sig .tc := ⟨.hbm, 85, rfl⟩
abbrev main_v60 : Ref sig .tc := ⟨.hbm, 86, rfl⟩
abbrev main_cst_8 : Ref sig .tc := ⟨.hbm, 87, rfl⟩
abbrev main_v61 : Ref sig .tc := ⟨.hbm, 88, rfl⟩
abbrev main_v62 : Ref sig .tc := ⟨.hbm, 89, rfl⟩
abbrev main_cst_9 : Ref sig .tc := ⟨.hbm, 90, rfl⟩
abbrev main_v63 : Ref sig .tc := ⟨.hbm, 91, rfl⟩
abbrev main_v64 : Ref sig .tc := ⟨.hbm, 92, rfl⟩
abbrev main_v65 : Ref sig .tc := ⟨.hbm, 93, rfl⟩
abbrev main_v66 : Ref sig .tc := ⟨.hbm, 94, rfl⟩
abbrev main_cst_10 : Ref sig .tc := ⟨.hbm, 95, rfl⟩
abbrev main_v67 : Ref sig .tc := ⟨.hbm, 96, rfl⟩
abbrev main_v68 : Ref sig .tc := ⟨.hbm, 97, rfl⟩
abbrev main_v69 : Ref sig .tc := ⟨.hbm, 98, rfl⟩
abbrev main_v70 : Ref sig .tc := ⟨.hbm, 99, rfl⟩
abbrev main_v71 : Ref sig .tc := ⟨.hbm, 100, rfl⟩
abbrev main_v72 : Ref sig .tc := ⟨.hbm, 101, rfl⟩
abbrev main_v73 : Ref sig .tc := ⟨.hbm, 102, rfl⟩
abbrev main_v74 : Ref sig .tc := ⟨.hbm, 103, rfl⟩
abbrev main_v75 : Ref sig .tc := ⟨.hbm, 104, rfl⟩
abbrev main_v76 : Ref sig .tc := ⟨.hbm, 105, rfl⟩
abbrev main_v77 : Ref sig .tc := ⟨.hbm, 106, rfl⟩
abbrev main_v78 : Ref sig .tc := ⟨.hbm, 107, rfl⟩
abbrev main_v79 : Ref sig .tc := ⟨.hbm, 108, rfl⟩
abbrev main_call0_v0 : Ref sig .tc := ⟨.hbm, 109, rfl⟩
abbrev main_call0_v1 : Ref sig .tc := ⟨.hbm, 110, rfl⟩
abbrev main_call0_cst : Ref sig .tc := ⟨.hbm, 111, rfl⟩
abbrev main_call0_v2 : Ref sig .tc := ⟨.hbm, 112, rfl⟩
abbrev main_call0_v3 : Ref sig .tc := ⟨.hbm, 113, rfl⟩
abbrev main_call0_cst_0 : Ref sig .tc := ⟨.hbm, 114, rfl⟩
abbrev main_call0_v4 : Ref sig .tc := ⟨.hbm, 115, rfl⟩
abbrev main_call0_v5 : Ref sig .tc := ⟨.hbm, 116, rfl⟩
abbrev main_v80 : Ref sig .tc := ⟨.hbm, 117, rfl⟩
abbrev main_v81 : Ref sig .tc := ⟨.hbm, 118, rfl⟩
abbrev main_v82 : Ref sig .tc := ⟨.hbm, 119, rfl⟩
abbrev main_v83 : Ref sig .tc := ⟨.hbm, 120, rfl⟩
abbrev main_v84 : Ref sig .tc := ⟨.hbm, 121, rfl⟩
abbrev main_v85 : Ref sig .tc := ⟨.hbm, 122, rfl⟩
abbrev main_cst_11 : Ref sig .tc := ⟨.hbm, 123, rfl⟩
abbrev main_v86 : Ref sig .tc := ⟨.hbm, 124, rfl⟩
abbrev main_v87 : Ref sig .tc := ⟨.hbm, 125, rfl⟩
abbrev main_v88 : Ref sig .tc := ⟨.hbm, 126, rfl⟩
abbrev main_cst_12 : Ref sig .tc := ⟨.hbm, 127, rfl⟩
abbrev main_v89 : Ref sig .tc := ⟨.hbm, 128, rfl⟩
abbrev main_v90 : Ref sig .tc := ⟨.hbm, 129, rfl⟩
abbrev main_cst_13 : Ref sig .tc := ⟨.hbm, 130, rfl⟩
abbrev main_v91 : Ref sig .tc := ⟨.hbm, 131, rfl⟩
abbrev main_v92 : Ref sig .tc := ⟨.hbm, 132, rfl⟩
abbrev main_v93 : Ref sig .tc := ⟨.hbm, 133, rfl⟩
abbrev main_v94 : Ref sig .tc := ⟨.hbm, 134, rfl⟩
abbrev main_v95 : Ref sig .tc := ⟨.hbm, 135, rfl⟩
abbrev main_cst_14 : Ref sig .tc := ⟨.hbm, 136, rfl⟩
abbrev main_v96 : Ref sig .tc := ⟨.hbm, 137, rfl⟩
abbrev main_v97 : Ref sig .tc := ⟨.hbm, 138, rfl⟩
abbrev main_cst_15 : Ref sig .tc := ⟨.hbm, 139, rfl⟩
abbrev main_v98 : Ref sig .tc := ⟨.hbm, 140, rfl⟩
abbrev main_v99 : Ref sig .tc := ⟨.hbm, 141, rfl⟩
abbrev main_v100 : Ref sig .tc := ⟨.hbm, 142, rfl⟩
abbrev main_v101 : Ref sig .tc := ⟨.hbm, 143, rfl⟩
abbrev main_cst_16 : Ref sig .tc := ⟨.hbm, 144, rfl⟩
abbrev main_v102 : Ref sig .tc := ⟨.hbm, 145, rfl⟩
abbrev main_v103 : Ref sig .tc := ⟨.hbm, 146, rfl⟩
abbrev main_v104 : Ref sig .tc := ⟨.hbm, 147, rfl⟩
abbrev main_v105 : Ref sig .tc := ⟨.hbm, 148, rfl⟩
abbrev main_v106 : Ref sig .tc := ⟨.hbm, 149, rfl⟩
abbrev main_v107 : Ref sig .tc := ⟨.hbm, 150, rfl⟩
abbrev main_v108 : Ref sig .tc := ⟨.hbm, 151, rfl⟩
abbrev main_v109 : Ref sig .tc := ⟨.hbm, 152, rfl⟩
abbrev main_v110 : Ref sig .tc := ⟨.hbm, 153, rfl⟩
abbrev main_v111 : Ref sig .tc := ⟨.hbm, 154, rfl⟩
abbrev main_v112 : Ref sig .tc := ⟨.hbm, 155, rfl⟩

abbrev nD : Nat := 1
abbrev τ : Topo := Topo.v7x

variable {F : FTy → Type} [FloatOps F]
-- ==== Kernel3.lean ====
abbrev S8x2048x1024 : Shape := ⟨3, ![8, 2048, 1024]⟩
abbrev S1024x7168 : Shape := ⟨2, ![1024, 7168]⟩
abbrev S2048 : Shape := ⟨1, ![2048]⟩
abbrev S32 : Shape := ⟨1, ![32]⟩
abbrev S_ : Shape := ⟨0, ![]⟩
abbrev S2048x1 : Shape := ⟨2, ![2048, 1]⟩
abbrev S1x32 : Shape := ⟨2, ![1, 32]⟩
abbrev S2048x32 : Shape := ⟨2, ![2048, 32]⟩
abbrev S2048x128 : Shape := ⟨2, ![2048, 128]⟩
abbrev S8x2048x2560 : Shape := ⟨3, ![8, 2048, 2560]⟩
abbrev S8x4x512x2560 : Shape := ⟨4, ![8, 4, 512, 2560]⟩
abbrev S8x16x128x2560 : Shape := ⟨4, ![8, 16, 128, 2560]⟩
abbrev S8x2048x512 : Shape := ⟨3, ![8, 2048, 512]⟩
abbrev S1x512x128 : Shape := ⟨3, ![1, 512, 128]⟩
abbrev S512x128 : Shape := ⟨2, ![512, 128]⟩
abbrev S1024x5120 : Shape := ⟨2, ![1024, 5120]⟩
abbrev S1x512x2560 : Shape := ⟨3, ![1, 512, 2560]⟩
abbrev S1x4x128x2560 : Shape := ⟨4, ![1, 4, 128, 2560]⟩
abbrev S1x16x32x2560 : Shape := ⟨4, ![1, 16, 32, 2560]⟩
abbrev S1x512x512 : Shape := ⟨3, ![1, 512, 512]⟩
abbrev S1x128 : Shape := ⟨2, ![1, 128]⟩
abbrev S512x1024 : Shape := ⟨2, ![512, 1024]⟩
abbrev S1x8x128 : Shape := ⟨3, ![1, 8, 128]⟩
abbrev S8x128 : Shape := ⟨2, ![8, 128]⟩
abbrev S1024x512 : Shape := ⟨2, ![1024, 512]⟩
abbrev S512x512 : Shape := ⟨2, ![512, 512]⟩
abbrev S1x128x128 : Shape := ⟨3, ![1, 128, 128]⟩
abbrev S128x128 : Shape := ⟨2, ![128, 128]⟩
abbrev S1x1x128x128 : Shape := ⟨4, ![1, 1, 128, 128]⟩
abbrev S1x32x128 : Shape := ⟨3, ![1, 32, 128]⟩
abbrev S32x128 : Shape := ⟨2, ![32, 128]⟩
abbrev S1x1x32x128 : Shape := ⟨4, ![1, 1, 32, 128]⟩

abbrev nBuf : Space → Nat
  | .hbm => 27
  | .vmem => 29
  | .smem => 0
  | _ => 0

abbrev bufTy : (tb : Table) → Fin (tcTables nBuf tb) → BufTy
  | .hbm, ⟨0, _⟩ => ⟨S8x2048x1024, .f32⟩
  | .hbm, ⟨1, _⟩ => ⟨S1024x7168, .f32⟩
  | .hbm, ⟨2, _⟩ => ⟨S2048, .f32⟩
  | .hbm, ⟨3, _⟩ => ⟨S32, .f32⟩
  | .hbm, ⟨4, _⟩ => ⟨S32, .f32⟩
  | .hbm, ⟨5, _⟩ => ⟨S_, .f32⟩
  | .hbm, ⟨6, _⟩ => ⟨S32, .f32⟩
  | .hbm, ⟨7, _⟩ => ⟨S32, .f32⟩
  | .hbm, ⟨8, _⟩ => ⟨S_, .f32⟩
  | .hbm, ⟨9, _⟩ => ⟨S32, .f32⟩
  | .hbm, ⟨10, _⟩ => ⟨S32, .f32⟩
  | .hbm, ⟨11, _⟩ => ⟨S2048x1, .f32⟩
  | .hbm, ⟨12, _⟩ => ⟨S1x32, .f32⟩
  | .hbm, ⟨13, _⟩ => ⟨S2048x32, .f32⟩
  | .hbm, ⟨14, _⟩ => ⟨S2048x32, .f32⟩
  | .hbm, ⟨15, _⟩ => ⟨S2048x32, .f32⟩
  | .hbm, ⟨16, _⟩ => ⟨S2048x32, .f32⟩
  | .hbm, ⟨17, _⟩ => ⟨S2048x32, .f32⟩
  | .hbm, ⟨18, _⟩ => ⟨S2048x128, .f32⟩
  | .hbm, ⟨19, _⟩ => ⟨S2048x32, .f32⟩
  | .hbm, ⟨20, _⟩ => ⟨S2048x32, .f32⟩
  | .hbm, ⟨21, _⟩ => ⟨S2048x128, .f32⟩
  | .hbm, ⟨22, _⟩ => ⟨S1024x7168, .bf16⟩
  | .hbm, ⟨23, _⟩ => ⟨S8x2048x2560, .bf16⟩
  | .hbm, ⟨24, _⟩ => ⟨S8x4x512x2560, .bf16⟩
  | .hbm, ⟨25, _⟩ => ⟨S8x16x128x2560, .bf16⟩
  | .hbm, ⟨26, _⟩ => ⟨S8x2048x512, .f32⟩
  | .local _ .vmem, ⟨0, _⟩ => ⟨S1x512x128, .f32⟩
  | .local _ .vmem, ⟨1, _⟩ => ⟨S1x512x128, .f32⟩
  | .local _ .vmem, ⟨2, _⟩ => ⟨S1x512x128, .f32⟩
  | .local _ .vmem, ⟨3, _⟩ => ⟨S1x512x128, .f32⟩
  | .local _ .vmem, ⟨4, _⟩ => ⟨S1x512x128, .f32⟩
  | .local _ .vmem, ⟨5, _⟩ => ⟨S1x512x128, .f32⟩
  | .local _ .vmem, ⟨6, _⟩ => ⟨S1x512x128, .f32⟩
  | .local _ .vmem, ⟨7, _⟩ => ⟨S1x512x128, .f32⟩
  | .local _ .vmem, ⟨8, _⟩ => ⟨S1x512x128, .f32⟩
  | .local _ .vmem, ⟨9, _⟩ => ⟨S1x512x128, .f32⟩
  | .local _ .vmem, ⟨10, _⟩ => ⟨S1x512x128, .f32⟩
  | .local _ .vmem, ⟨11, _⟩ => ⟨S1x512x128, .f32⟩
  | .local _ .vmem, ⟨12, _⟩ => ⟨S1x512x128, .f32⟩
  | .local _ .vmem, ⟨13, _⟩ => ⟨S1x512x128, .f32⟩
  | .local _ .vmem, ⟨14, _⟩ => ⟨S1x512x128, .f32⟩
  | .local _ .vmem, ⟨15, _⟩ => ⟨S1x512x128, .f32⟩
  | .local _ .vmem, ⟨16, _⟩ => ⟨S512x128, .f32⟩
  | .local _ .vmem, ⟨17, _⟩ => ⟨S512x128, .f32⟩
  | .local _ .vmem, ⟨18, _⟩ => ⟨S512x128, .f32⟩
  | .local _ .vmem, ⟨19, _⟩ => ⟨S512x128, .f32⟩
  | .local _ .vmem, ⟨20, _⟩ => ⟨S1024x5120, .bf16⟩
  | .local _ .vmem, ⟨21, _⟩ => ⟨S1x512x2560, .bf16⟩
  | .local _ .vmem, ⟨22, _⟩ => ⟨S1x512x2560, .bf16⟩
  | .local _ .vmem, ⟨23, _⟩ => ⟨S1x4x128x2560, .bf16⟩
  | .local _ .vmem, ⟨24, _⟩ => ⟨S1x4x128x2560, .bf16⟩
  | .local _ .vmem, ⟨25, _⟩ => ⟨S1x16x32x2560, .bf16⟩
  | .local _ .vmem, ⟨26, _⟩ => ⟨S1x16x32x2560, .bf16⟩
  | .local _ .vmem, ⟨27, _⟩ => ⟨S1x512x512, .f32⟩
  | .local _ .vmem, ⟨28, _⟩ => ⟨S1x512x512, .f32⟩
  | _, _ => ⟨S8x2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | _, _ => false

abbrev semScoped : Fin 0 → Bool
  | ⟨_, h⟩ => absurd h (Nat.not_lt_zero _)

abbrev dmaSemScoped : Fin 29 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | _ => false

abbrev sig : RefSig :=
  ofTc nBuf bufTy 0 29 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_cst : Ref sig .tc := ⟨.hbm, 5, rfl⟩
abbrev main_v3 : Ref sig .tc := ⟨.hbm, 6, rfl⟩
abbrev main_v4 : Ref sig .tc := ⟨.hbm, 7, rfl⟩
abbrev main_cst_0 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_v13 : Ref sig .tc := ⟨.hbm, 17, rfl⟩
abbrev main_v14 : Ref sig .tc := ⟨.hbm, 18, rfl⟩
abbrev main_v15 : Ref sig .tc := ⟨.hbm, 19, rfl⟩
abbrev main_v16 : Ref sig .tc := ⟨.hbm, 20, rfl⟩
abbrev main_v17 : Ref sig .tc := ⟨.hbm, 21, rfl⟩
abbrev main_v18 : Ref sig .tc := ⟨.hbm, 22, rfl⟩
abbrev main_v19_0 : Ref sig .tc := ⟨.hbm, 23, rfl⟩
abbrev main_v19_1 : Ref sig .tc := ⟨.hbm, 24, rfl⟩
abbrev main_v19_2 : Ref sig .tc := ⟨.hbm, 25, rfl⟩
abbrev main_v19_3 : Ref sig .tc := ⟨.hbm, 26, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg9_1 : Ref sig .tc := ⟨.vmem, 19, rfl⟩
abbrev cc0_stg10_0 : Ref sig .tc := ⟨.vmem, 20, rfl⟩
abbrev cc0_stg11_0 : Ref sig .tc := ⟨.vmem, 21, rfl⟩
abbrev cc0_stg11_1 : Ref sig .tc := ⟨.vmem, 22, rfl⟩
abbrev cc0_stg12_0 : Ref sig .tc := ⟨.vmem, 23, rfl⟩
abbrev cc0_stg12_1 : Ref sig .tc := ⟨.vmem, 24, rfl⟩
abbrev cc0_stg13_0 : Ref sig .tc := ⟨.vmem, 25, rfl⟩
abbrev cc0_stg13_1 : Ref sig .tc := ⟨.vmem, 26, rfl⟩
abbrev cc0_stg14_0 : Ref sig .tc := ⟨.vmem, 27, rfl⟩
abbrev cc0_stg14_1 : Ref sig .tc := ⟨.vmem, 28, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem9_1 : DmaSem sig := 19
abbrev cc0_sem10_0 : DmaSem sig := 20
abbrev cc0_sem11_0 : DmaSem sig := 21
abbrev cc0_sem11_1 : DmaSem sig := 22
abbrev cc0_sem12_0 : DmaSem sig := 23
abbrev cc0_sem12_1 : DmaSem sig := 24
abbrev cc0_sem13_0 : DmaSem sig := 25
abbrev cc0_sem13_1 : DmaSem sig := 26
abbrev cc0_sem14_0 : DmaSem sig := 27
abbrev cc0_sem14_1 : DmaSem sig := 28

abbrev nD : Nat := 1
abbrev τ : Topo := Topo.v7x

variable {F : FTy → Type} [FloatOps F]

abbrev grid0 : Pipeline.Grid := ⟨2, ![8, 4], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c1_i32 : BitVec 32 := 1#32
  let c0_i32 : BitVec 32 := 0#32
  ![arg0.toNat, arg1.toNat, c1_i32.toNat]

def cc0_transform_2 (i : grid0.Coords) : Fin 3 → Nat :=
  let arg0 : BitVec 32 := BitVec.ofNat 32 (i 0).val
  let arg1 : BitVec 32 := BitVec.ofNat 32 (i 1).val
  let c2_i32 : BitVec 32 := 2#32
  let c0_i32 : BitVec 32 := 0#32
  ![arg0.toNat, arg1.toNat, c2_i32.toNat]

def cc0_transform_3 (i : grid0.Coords) : Fin 3 → Nat :=
  let arg0 : BitVec 32 := BitVec.ofNat 32 (i 0).val
  let arg1 : BitVec 32 := BitVec.ofNat 32 (i 1).val
  let c3_i32 : BitVec 32 := 3#32
  let c0_i32 : BitVec 32 := 0#32
  ![arg0.toNat, arg1.toNat, c3_i32.toNat]

def cc0_transform_4 (i : grid0.Coords) : Fin 3 → Nat :=
  let arg0 : BitVec 32 := BitVec.ofNat 32 (i 0).val
  let arg1 : BitVec 32 := BitVec.ofNat 32 (i 1).val
  let c4_i32 : BitVec 32 := 4#32
  let c0_i32 : BitVec 32 := 0#32
  ![arg0.toNat, arg1.toNat, c4_i32.toNat]

def cc0_transform_5 (i : grid0.Coords) : Fin 3 → Nat :=
  let arg0 : BitVec 32 := BitVec.ofNat 32 (i 0).val
  let arg1 : BitVec 32 := BitVec.ofNat 32 (i 1).val
  let c5_i32 : BitVec 32 := 5#32
  let c0_i32 : BitVec 32 := 0#32
  ![arg0.toNat, arg1.toNat, c5_i32.toNat]

def cc0_transform_6 (i : grid0.Coords) : Fin 3 → Nat :=
  let arg0 : BitVec 32 := BitVec.ofNat 32 (i 0).val
  let arg1 : BitVec 32 := BitVec.ofNat 32 (i 1).val
  let c6_i32 : BitVec 32 := 6#32
  let c0_i32 : BitVec 32 := 0#32
  ![arg0.toNat, arg1.toNat, c6_i32.toNat]

def cc0_transform_7 (i : grid0.Coords) : Fin 3 → Nat :=
  let arg0 : BitVec 32 := BitVec.ofNat 32 (i 0).val
  let arg1 : BitVec 32 := BitVec.ofNat 32 (i 1).val
  let c7_i32 : BitVec 32 := 7#32
  let c0_i32 : BitVec 32 := 0#32
  ![arg0.toNat, arg1.toNat, c7_i32.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_10 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_12 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, arg1.toNat, c0_i32_0.toNat]

def cc0_transform_13 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, arg1.toNat, c0_i32_0.toNat]

def cc0_transform_14 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x512x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x512x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x512x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x512x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x512x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x512x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1x512x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S1x512x128 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S512x128 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![false, true]

abbrev stage0_9 : Fin 2 → Memref sig .tc .vmem S512x128 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![false, true]

abbrev stage0_10 : Fin 1 → Memref sig .tc .vmem S1024x5120 .bf16 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false, false]

abbrev stage0_11 : Fin 2 → Memref sig .tc .vmem S1x512x2560 .bf16 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true, true]

abbrev stage0_12 : Fin 2 → Memref sig .tc .vmem S1x4x128x2560 .bf16 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true, true]

abbrev stage0_13 : Fin 2 → Memref sig .tc .vmem S1x16x32x2560 .bf16 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true, true]

abbrev stage0_14 : Fin 2 → Memref sig .tc .vmem S1x512x512 .f32 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true, true]
-- ==== Reference3Ideal.lean ====
abbrev S8x2048x1024 : Shape := ⟨3, ![8, 2048, 1024]⟩
abbrev S1024x7168 : Shape := ⟨2, ![1024, 7168]⟩
abbrev S2048 : Shape := ⟨1, ![2048]⟩
abbrev S32 : Shape := ⟨1, ![32]⟩
abbrev S_ : Shape := ⟨0, ![]⟩
abbrev S2048x1 : Shape := ⟨2, ![2048, 1]⟩
abbrev S1x32 : Shape := ⟨2, ![1, 32]⟩
abbrev S2048x32 : Shape := ⟨2, ![2048, 32]⟩
abbrev S8x2048x7168 : Shape := ⟨3, ![8, 2048, 7168]⟩
abbrev S8x2048x1536 : Shape := ⟨3, ![8, 2048, 1536]⟩
abbrev S8x2048x3x8x64 : Shape := ⟨5, ![8, 2048, 3, 8, 64]⟩
abbrev S1x2048x1x1x32 : Shape := ⟨5, ![1, 2048, 1, 1, 32]⟩
abbrev S8x2048x3x8x32 : Shape := ⟨5, ![8, 2048, 3, 8, 32]⟩
abbrev S8x2048x1x8x64 : Shape := ⟨5, ![8, 2048, 1, 8, 64]⟩
abbrev S8x2048x8x64 : Shape := ⟨4, ![8, 2048, 8, 64]⟩
abbrev S8x16x8x16x512 : Shape := ⟨5, ![8, 16, 8, 16, 512]⟩
abbrev S8x16x16x8x512 : Shape := ⟨5, ![8, 16, 16, 8, 512]⟩
abbrev S8x2048x512 : Shape := ⟨3, ![8, 2048, 512]⟩
abbrev S8x2048x4x2x64 : Shape := ⟨5, ![8, 2048, 4, 2, 64]⟩
abbrev S8x2048x4x1x64 : Shape := ⟨5, ![8, 2048, 4, 1, 64]⟩
abbrev S8x2048x1x512 : Shape := ⟨4, ![8, 2048, 1, 512]⟩
abbrev S8x1x2048x512 : Shape := ⟨4, ![8, 1, 2048, 512]⟩
abbrev S8x2048x2560 : Shape := ⟨3, ![8, 2048, 2560]⟩
abbrev S8x512x4x512 : Shape := ⟨4, ![8, 512, 4, 512]⟩
abbrev S8x4x512x512 : Shape := ⟨4, ![8, 4, 512, 512]⟩
abbrev S8x128x16x512 : Shape := ⟨4, ![8, 128, 16, 512]⟩
abbrev S8x16x128x512 : Shape := ⟨4, ![8, 16, 128, 512]⟩
abbrev S8x4x512x2560 : Shape := ⟨4, ![8, 4, 512, 2560]⟩
abbrev S8x16x128x2560 : Shape := ⟨4, ![8, 16, 128, 2560]⟩

abbrev nBuf : Space → Nat
  | .hbm => 172
  | .vmem => 0
  | .smem => 0
  | _ => 0

abbrev hbmTy0_0 (i : Nat) : BufTy := match i % 128 with
  | 0 => ⟨S8x2048x1024, .f32⟩
  | 1 => ⟨S1024x7168, .f32⟩
  | 2 => ⟨S2048, .f32⟩
  | 3 => ⟨S32, .f32⟩
  | 4 => ⟨S32, .f32⟩
  | 5 => ⟨S_, .f32⟩
  | 6 => ⟨S32, .f32⟩
  | 7 => ⟨S32, .f32⟩
  | 8 => ⟨S_, .f32⟩
  | 9 => ⟨S32, .f32⟩
  | 10 => ⟨S32, .f32⟩
  | 11 => ⟨S2048x1, .f32⟩
  | 12 => ⟨S1x32, .f32⟩
  | 13 => ⟨S2048x32, .f32⟩
  | 14 => ⟨S2048x32, .f32⟩
  | 15 => ⟨S2048x32, .f32⟩
  | 16 => ⟨S2048x32, .f32⟩
  | 17 => ⟨S2048x32, .f32⟩
  | 18 => ⟨S8x2048x7168, .f32⟩
  | 19 => ⟨S8x2048x1536, .f32⟩
  | 20 => ⟨S8x2048x3x8x64, .f32⟩
  | 21 => ⟨S1x2048x1x1x32, .f32⟩
  | 22 => ⟨S1x2048x1x1x32, .f32⟩
  | 23 => ⟨S8x2048x3x8x32, .f32⟩
  | 24 => ⟨S8x2048x3x8x32, .f32⟩
  | 25 => ⟨S8x2048x3x8x32, .f32⟩
  | 26 => ⟨S8x2048x3x8x32, .f32⟩
  | 27 => ⟨S8x2048x3x8x32, .f32⟩
  | 28 => ⟨S8x2048x3x8x32, .f32⟩
  | 29 => ⟨S8x2048x3x8x32, .f32⟩
  | 30 => ⟨S8x2048x3x8x32, .f32⟩
  | 31 => ⟨S8x2048x3x8x32, .f32⟩
  | 32 => ⟨S8x2048x3x8x32, .f32⟩
  | 33 => ⟨S8x2048x3x8x32, .f32⟩
  | 34 => ⟨S8x2048x3x8x32, .f32⟩
  | 35 => ⟨S8x2048x3x8x64, .f32⟩
  | 36 => ⟨S8x2048x1536, .f32⟩
  | 37 => ⟨S8x2048x3x8x64, .f32⟩
  | 38 => ⟨S1x2048x1x1x32, .f32⟩
  | 39 => ⟨S1x2048x1x1x32, .f32⟩
  | 40 => ⟨S8x2048x3x8x32, .f32⟩
  | 41 => ⟨S8x2048x3x8x32, .f32⟩
  | 42 => ⟨S8x2048x3x8x32, .f32⟩
  | 43 => ⟨S8x2048x3x8x32, .f32⟩
  | 44 => ⟨S8x2048x3x8x32, .f32⟩
  | 45 => ⟨S8x2048x3x8x32, .f32⟩
  | 46 => ⟨S8x2048x3x8x32, .f32⟩
  | 47 => ⟨S8x2048x3x8x32, .f32⟩
  | 48 => ⟨S8x2048x3x8x32, .f32⟩
  | 49 => ⟨S8x2048x3x8x32, .f32⟩
  | 50 => ⟨S8x2048x3x8x32, .f32⟩
  | 51 => ⟨S8x2048x3x8x32, .f32⟩
  | 52 => ⟨S8x2048x3x8x64, .f32⟩
  | 53 => ⟨S8x2048x1536, .f32⟩
  | 54 => ⟨S8x2048x3x8x64, .f32⟩
  | 55 => ⟨S_, .f32⟩
  | 56 => ⟨S8x2048x3x8x64, .f32⟩
  | 57 => ⟨S8x2048x3x8x64, .f32⟩
  | 58 => ⟨S8x2048x1x8x64, .f32⟩
  | 59 => ⟨S8x2048x8x64, .f32⟩
  | 60 => ⟨S8x16x8x16x512, .f32⟩
  | 61 => ⟨S8x16x16x8x512, .f32⟩
  | 62 => ⟨S8x2048x512, .f32⟩
  | 63 => ⟨S8x2048x4x2x64, .f32⟩
  | 64 => ⟨S_, .f32⟩
  | 65 => ⟨S8x2048x4x1x64, .f32⟩
  | 66 => ⟨S8x2048x4x1x64, .f32⟩
  | 67 => ⟨S8x2048x4x2x64, .f32⟩
  | 68 => ⟨S8x2048x512, .f32⟩
  | 69 => ⟨S8x2048x4x1x64, .f32⟩
  | 70 => ⟨S8x2048x4x2x64, .f32⟩
  | 71 => ⟨S8x2048x512, .f32⟩
  | 72 => ⟨S8x2048x1x8x64, .f32⟩
  | 73 => ⟨S8x2048x8x64, .f32⟩
  | 74 => ⟨S8x2048x1x512, .f32⟩
  | 75 => ⟨S8x1x2048x512, .f32⟩
  | 76 => ⟨S8x2048x512, .f32⟩
  | 77 => ⟨S8x2048x1x8x64, .f32⟩
  | 78 => ⟨S8x2048x8x64, .f32⟩
  | 79 => ⟨S8x2048x1x512, .f32⟩
  | 80 => ⟨S8x1x2048x512, .f32⟩
  | 81 => ⟨S8x2048x512, .f32⟩
  | 82 => ⟨S8x2048x4x2x64, .f32⟩
  | 83 => ⟨S_, .f32⟩
  | 84 => ⟨S8x2048x4x1x64, .f32⟩
  | 85 => ⟨S8x2048x4x1x64, .f32⟩
  | 86 => ⟨S8x2048x4x2x64, .f32⟩
  | 87 => ⟨S8x2048x512, .f32⟩
  | 88 => ⟨S8x2048x4x1x64, .f32⟩
  | 89 => ⟨S8x2048x4x2x64, .f32⟩
  | 90 => ⟨S8x2048x512, .f32⟩
  | 91 => ⟨S8x2048x2560, .f32⟩
  | 92 => ⟨S8x2048x2560, .bf16⟩
  | 93 => ⟨S_, .f32⟩
  | 94 => ⟨S8x2048x3x8x64, .f32⟩
  | 95 => ⟨S8x2048x3x8x64, .f32⟩
  | 96 => ⟨S8x2048x1x8x64, .f32⟩
  | 97 => ⟨S8x2048x8x64, .f32⟩
  | 98 => ⟨S8x512x4x512, .f32⟩
  | 99 => ⟨S8x4x512x512, .f32⟩
  | 100 => ⟨S8x2048x512, .f32⟩
  | 101 => ⟨S8x2048x4x2x64, .f32⟩
  | 102 => ⟨S_, .f32⟩
  | 103 => ⟨S8x2048x4x1x64, .f32⟩
  | 104 => ⟨S8x2048x4x1x64, .f32⟩
  | 105 => ⟨S8x2048x4x2x64, .f32⟩
  | 106 => ⟨S8x2048x512, .f32⟩
  | 107 => ⟨S8x2048x4x1x64, .f32⟩
  | 108 => ⟨S8x2048x4x2x64, .f32⟩
  | 109 => ⟨S8x2048x512, .f32⟩
  | 110 => ⟨S8x2048x1x8x64, .f32⟩
  | 111 => ⟨S8x2048x8x64, .f32⟩
  | 112 => ⟨S8x512x4x512, .f32⟩
  | 113 => ⟨S8x4x512x512, .f32⟩
  | 114 => ⟨S8x2048x512, .f32⟩
  | 115 => ⟨S8x2048x1x8x64, .f32⟩
  | 116 => ⟨S8x2048x8x64, .f32⟩
  | 117 => ⟨S8x512x4x512, .f32⟩
  | 118 => ⟨S8x4x512x512, .f32⟩
  | 119 => ⟨S8x2048x512, .f32⟩
  | 120 => ⟨S8x2048x4x2x64, .f32⟩
  | 121 => ⟨S_, .f32⟩
  | 122 => ⟨S8x2048x4x1x64, .f32⟩
  | 123 => ⟨S8x2048x4x1x64, .f32⟩
  | 124 => ⟨S8x2048x4x2x64, .f32⟩
  | 125 => ⟨S8x2048x512, .f32⟩
  | 126 => ⟨S8x2048x4x1x64, .f32⟩
  | 127 => ⟨S8x2048x4x2x64, .f32⟩
  | _ => ⟨S8x2048x1024, .f32⟩

abbrev hbmTy0_1 (i : Nat) : BufTy := match i % 128 with
  | 0 => ⟨S8x2048x512, .f32⟩
  | 1 => ⟨S8x2048x2560, .f32⟩
  | 2 => ⟨S8x2048x2560, .bf16⟩
  | 3 => ⟨S_, .f32⟩
  | 4 => ⟨S8x2048x3x8x64, .f32⟩
  | 5 => ⟨S8x2048x3x8x64, .f32⟩
  | 6 => ⟨S8x2048x1x8x64, .f32⟩
  | 7 => ⟨S8x2048x8x64, .f32⟩
  | 8 => ⟨S8x128x16x512, .f32⟩
  | 9 => ⟨S8x16x128x512, .f32⟩
  | 10 => ⟨S8x2048x512, .f32⟩
  | 11 => ⟨S8x2048x4x2x64, .f32⟩
  | 12 => ⟨S_, .f32⟩
  | 13 => ⟨S8x2048x4x1x64, .f32⟩
  | 14 => ⟨S8x2048x4x1x64, .f32⟩
  | 15 => ⟨S8x2048x4x2x64, .f32⟩
  | 16 => ⟨S8x2048x512, .f32⟩
  | 17 => ⟨S8x2048x4x1x64, .f32⟩
  | 18 => ⟨S8x2048x4x2x64, .f32⟩
  | 19 => ⟨S8x2048x512, .f32⟩
  | 20 => ⟨S8x2048x1x8x64, .f32⟩
  | 21 => ⟨S8x2048x8x64, .f32⟩
  | 22 => ⟨S8x128x16x512, .f32⟩
  | 23 => ⟨S8x16x128x512, .f32⟩
  | 24 => ⟨S8x2048x512, .f32⟩
  | 25 => ⟨S8x2048x1x8x64, .f32⟩
  | 26 => ⟨S8x2048x8x64, .f32⟩
  | 27 => ⟨S8x128x16x512, .f32⟩
  | 28 => ⟨S8x16x128x512, .f32⟩
  | 29 => ⟨S8x2048x512, .f32⟩
  | 30 => ⟨S8x2048x4x2x64, .f32⟩
  | 31 => ⟨S_, .f32⟩
  | 32 => ⟨S8x2048x4x1x64, .f32⟩
  | 33 => ⟨S8x2048x4x1x64, .f32⟩
  | 34 => ⟨S8x2048x4x2x64, .f32⟩
  | 35 => ⟨S8x2048x512, .f32⟩
  | 36 => ⟨S8x2048x4x1x64, .f32⟩
  | 37 => ⟨S8x2048x4x2x64, .f32⟩
  | 38 => ⟨S8x2048x512, .f32⟩
  | 39 => ⟨S8x2048x2560, .f32⟩
  | 40 => ⟨S8x2048x2560, .bf16⟩
  | 41 => ⟨S8x4x512x2560, .bf16⟩
  | 42 => ⟨S8x16x128x2560, .bf16⟩
  | 43 => ⟨S8x2048x512, .f32⟩
  | _ => ⟨S8x2048x1024, .f32⟩

abbrev hbmTy (i : Nat) : BufTy := match i / 128 with
  | 0 => hbmTy0_0 i
  | 1 => hbmTy0_1 i
  | _ => ⟨S8x2048x1024, .f32⟩

abbrev bufTy : (tb : Table) → Fin (tcTables nBuf tb) → BufTy
  | .hbm, ⟨i, _⟩ => hbmTy i
  | _, _ => ⟨S8x2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_cst : Ref sig .tc := ⟨.hbm, 5, rfl⟩
abbrev main_v3 : Ref sig .tc := ⟨.hbm, 6, rfl⟩
abbrev main_v4 : Ref sig .tc := ⟨.hbm, 7, rfl⟩
abbrev main_cst_0 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_v13 : Ref sig .tc := ⟨.hbm, 17, rfl⟩
abbrev main_v14 : Ref sig .tc := ⟨.hbm, 18, rfl⟩
abbrev main_v15 : Ref sig .tc := ⟨.hbm, 19, rfl⟩
abbrev main_v16 : Ref sig .tc := ⟨.hbm, 20, rfl⟩
abbrev main_v17 : Ref sig .tc := ⟨.hbm, 21, rfl⟩
abbrev main_v18 : Ref sig .tc := ⟨.hbm, 22, rfl⟩
abbrev main_v19 : Ref sig .tc := ⟨.hbm, 23, rfl⟩
abbrev main_v20 : Ref sig .tc := ⟨.hbm, 24, rfl⟩
abbrev main_v21 : Ref sig .tc := ⟨.hbm, 25, rfl⟩
abbrev main_v22 : Ref sig .tc := ⟨.hbm, 26, rfl⟩
abbrev main_v23 : Ref sig .tc := ⟨.hbm, 27, rfl⟩
abbrev main_v24 : Ref sig .tc := ⟨.hbm, 28, rfl⟩
abbrev main_v25 : Ref sig .tc := ⟨.hbm, 29, rfl⟩
abbrev main_v26 : Ref sig .tc := ⟨.hbm, 30, rfl⟩
abbrev main_v27 : Ref sig .tc := ⟨.hbm, 31, rfl⟩
abbrev main_v28 : Ref sig .tc := ⟨.hbm, 32, rfl⟩
abbrev main_v29 : Ref sig .tc := ⟨.hbm, 33, rfl⟩
abbrev main_v30 : Ref sig .tc := ⟨.hbm, 34, rfl⟩
abbrev main_v31 : Ref sig .tc := ⟨.hbm, 35, rfl⟩
abbrev main_v32 : Ref sig .tc := ⟨.hbm, 36, rfl⟩
abbrev main_v33 : Ref sig .tc := ⟨.hbm, 37, rfl⟩
abbrev main_v34 : Ref sig .tc := ⟨.hbm, 38, rfl⟩
abbrev main_v35 : Ref sig .tc := ⟨.hbm, 39, rfl⟩
abbrev main_v36 : Ref sig .tc := ⟨.hbm, 40, rfl⟩
abbrev main_v37 : Ref sig .tc := ⟨.hbm, 41, rfl⟩
abbrev main_v38 : Ref sig .tc := ⟨.hbm, 42, rfl⟩
abbrev main_v39 : Ref sig .tc := ⟨.hbm, 43, rfl⟩
abbrev main_v40 : Ref sig .tc := ⟨.hbm, 44, rfl⟩
abbrev main_v41 : Ref sig .tc := ⟨.hbm, 45, rfl⟩
abbrev main_v42 : Ref sig .tc := ⟨.hbm, 46, rfl⟩
abbrev main_v43 : Ref sig .tc := ⟨.hbm, 47, rfl⟩
abbrev main_v44 : Ref sig .tc := ⟨.hbm, 48, rfl⟩
abbrev main_v45 : Ref sig .tc := ⟨.hbm, 49, rfl⟩
abbrev main_v46 : Ref sig .tc := ⟨.hbm, 50, rfl⟩
abbrev main_v47 : Ref sig .tc := ⟨.hbm, 51, rfl⟩
abbrev main_v48 : Ref sig .tc := ⟨.hbm, 52, rfl⟩
abbrev main_v49 : Ref sig .tc := ⟨.hbm, 53, rfl⟩
abbrev main_v50 : Ref sig .tc := ⟨.hbm, 54, rfl⟩
abbrev main_cst_1 : Ref sig .tc := ⟨.hbm, 55, rfl⟩
abbrev main_v51 : Ref sig .tc := ⟨.hbm, 56, rfl⟩
abbrev main_v52 : Ref sig .tc := ⟨.hbm, 57, rfl⟩
abbrev main_v53 : Ref sig .tc := ⟨.hbm, 58, rfl⟩
abbrev main_v54 : Ref sig .tc := ⟨.hbm, 59, rfl⟩
abbrev main_v55 : Ref sig .tc := ⟨.hbm, 60, rfl⟩
abbrev main_v56 : Ref sig .tc := ⟨.hbm, 61, rfl⟩
abbrev main_v57 : Ref sig .tc := ⟨.hbm, 62, rfl⟩
abbrev main_v58 : Ref sig .tc := ⟨.hbm, 63, rfl⟩
abbrev main_cst_2 : Ref sig .tc := ⟨.hbm, 64, rfl⟩
abbrev main_v59 : Ref sig .tc := ⟨.hbm, 65, rfl⟩
abbrev main_v60 : Ref sig .tc := ⟨.hbm, 66, rfl⟩
abbrev main_v61 : Ref sig .tc := ⟨.hbm, 67, rfl⟩
abbrev main_v62 : Ref sig .tc := ⟨.hbm, 68, rfl⟩
abbrev main_v63 : Ref sig .tc := ⟨.hbm, 69, rfl⟩
abbrev main_v64 : Ref sig .tc := ⟨.hbm, 70, rfl⟩
abbrev main_v65 : Ref sig .tc := ⟨.hbm, 71, rfl⟩
abbrev main_v66 : Ref sig .tc := ⟨.hbm, 72, rfl⟩
abbrev main_v67 : Ref sig .tc := ⟨.hbm, 73, rfl⟩
abbrev main_v68 : Ref sig .tc := ⟨.hbm, 74, rfl⟩
abbrev main_v69 : Ref sig .tc := ⟨.hbm, 75, rfl⟩
abbrev main_v70 : Ref sig .tc := ⟨.hbm, 76, rfl⟩
abbrev main_v71 : Ref sig .tc := ⟨.hbm, 77, rfl⟩
abbrev main_v72 : Ref sig .tc := ⟨.hbm, 78, rfl⟩
abbrev main_v73 : Ref sig .tc := ⟨.hbm, 79, rfl⟩
abbrev main_v74 : Ref sig .tc := ⟨.hbm, 80, rfl⟩
abbrev main_v75 : Ref sig .tc := ⟨.hbm, 81, rfl⟩
abbrev main_v76 : Ref sig .tc := ⟨.hbm, 82, rfl⟩
abbrev main_cst_3 : Ref sig .tc := ⟨.hbm, 83, rfl⟩
abbrev main_v77 : Ref sig .tc := ⟨.hbm, 84, rfl⟩
abbrev main_v78 : Ref sig .tc := ⟨.hbm, 85, rfl⟩
abbrev main_v79 : Ref sig .tc := ⟨.hbm, 86, rfl⟩
abbrev main_v80 : Ref sig .tc := ⟨.hbm, 87, rfl⟩
abbrev main_v81 : Ref sig .tc := ⟨.hbm, 88, rfl⟩
abbrev main_v82 : Ref sig .tc := ⟨.hbm, 89, rfl⟩
abbrev main_v83 : Ref sig .tc := ⟨.hbm, 90, rfl⟩
abbrev main_v84 : Ref sig .tc := ⟨.hbm, 91, rfl⟩
abbrev main_v85 : Ref sig .tc := ⟨.hbm, 92, rfl⟩
abbrev main_cst_4 : Ref sig .tc := ⟨.hbm, 93, rfl⟩
abbrev main_v86 : Ref sig .tc := ⟨.hbm, 94, rfl⟩
abbrev main_v87 : Ref sig .tc := ⟨.hbm, 95, rfl⟩
abbrev main_v88 : Ref sig .tc := ⟨.hbm, 96, rfl⟩
abbrev main_v89 : Ref sig .tc := ⟨.hbm, 97, rfl⟩
abbrev main_v90 : Ref sig .tc := ⟨.hbm, 98, rfl⟩
abbrev main_v91 : Ref sig .tc := ⟨.hbm, 99, rfl⟩
abbrev main_v92 : Ref sig .tc := ⟨.hbm, 100, rfl⟩
abbrev main_v93 : Ref sig .tc := ⟨.hbm, 101, rfl⟩
abbrev main_cst_5 : Ref sig .tc := ⟨.hbm, 102, rfl⟩
abbrev main_v94 : Ref sig .tc := ⟨.hbm, 103, rfl⟩
abbrev main_v95 : Ref sig .tc := ⟨.hbm, 104, rfl⟩
abbrev main_v96 : Ref sig .tc := ⟨.hbm, 105, rfl⟩
abbrev main_v97 : Ref sig .tc := ⟨.hbm, 106, rfl⟩
abbrev main_v98 : Ref sig .tc := ⟨.hbm, 107, rfl⟩
abbrev main_v99 : Ref sig .tc := ⟨.hbm, 108, rfl⟩
abbrev main_v100 : Ref sig .tc := ⟨.hbm, 109, rfl⟩
abbrev main_v101 : Ref sig .tc := ⟨.hbm, 110, rfl⟩
abbrev main_v102 : Ref sig .tc := ⟨.hbm, 111, rfl⟩
abbrev main_v103 : Ref sig .tc := ⟨.hbm, 112, rfl⟩
abbrev main_v104 : Ref sig .tc := ⟨.hbm, 113, rfl⟩
abbrev main_v105 : Ref sig .tc := ⟨.hbm, 114, rfl⟩
abbrev main_v106 : Ref sig .tc := ⟨.hbm, 115, rfl⟩
abbrev main_v107 : Ref sig .tc := ⟨.hbm, 116, rfl⟩
abbrev main_v108 : Ref sig .tc := ⟨.hbm, 117, rfl⟩
abbrev main_v109 : Ref sig .tc := ⟨.hbm, 118, rfl⟩
abbrev main_v110 : Ref sig .tc := ⟨.hbm, 119, rfl⟩
abbrev main_v111 : Ref sig .tc := ⟨.hbm, 120, rfl⟩
abbrev main_cst_6 : Ref sig .tc := ⟨.hbm, 121, rfl⟩
abbrev main_v112 : Ref sig .tc := ⟨.hbm, 122, rfl⟩
abbrev main_v113 : Ref sig .tc := ⟨.hbm, 123, rfl⟩
abbrev main_v114 : Ref sig .tc := ⟨.hbm, 124, rfl⟩
abbrev main_v115 : Ref sig .tc := ⟨.hbm, 125, rfl⟩
abbrev main_v116 : Ref sig .tc := ⟨.hbm, 126, rfl⟩
abbrev main_v117 : Ref sig .tc := ⟨.hbm, 127, rfl⟩
abbrev main_v118 : Ref sig .tc := ⟨.hbm, 128, rfl⟩
abbrev main_v119 : Ref sig .tc := ⟨.hbm, 129, rfl⟩
abbrev main_v120 : Ref sig .tc := ⟨.hbm, 130, rfl⟩
abbrev main_cst_7 : Ref sig .tc := ⟨.hbm, 131, rfl⟩
abbrev main_v121 : Ref sig .tc := ⟨.hbm, 132, rfl⟩
abbrev main_v122 : Ref sig .tc := ⟨.hbm, 133, rfl⟩
abbrev main_v123 : Ref sig .tc := ⟨.hbm, 134, rfl⟩
abbrev main_v124 : Ref sig .tc := ⟨.hbm, 135, rfl⟩
abbrev main_v125 : Ref sig .tc := ⟨.hbm, 136, rfl⟩
abbrev main_v126 : Ref sig .tc := ⟨.hbm, 137, rfl⟩
abbrev main_v127 : Ref sig .tc := ⟨.hbm, 138, rfl⟩
abbrev main_v128 : Ref sig .tc := ⟨.hbm, 139, rfl⟩
abbrev main_cst_8 : Ref sig .tc := ⟨.hbm, 140, rfl⟩
abbrev main_v129 : Ref sig .tc := ⟨.hbm, 141, rfl⟩
abbrev main_v130 : Ref sig .tc := ⟨.hbm, 142, rfl⟩
abbrev main_v131 : Ref sig .tc := ⟨.hbm, 143, rfl⟩
abbrev main_v132 : Ref sig .tc := ⟨.hbm, 144, rfl⟩
abbrev main_v133 : Ref sig .tc := ⟨.hbm, 145, rfl⟩
abbrev main_v134 : Ref sig .tc := ⟨.hbm, 146, rfl⟩
abbrev main_v135 : Ref sig .tc := ⟨.hbm, 147, rfl⟩
abbrev main_v136 : Ref sig .tc := ⟨.hbm, 148, rfl⟩
abbrev main_v137 : Ref sig .tc := ⟨.hbm, 149, rfl⟩
abbrev main_v138 : Ref sig .tc := ⟨.hbm, 150, rfl⟩
abbrev main_v139 : Ref sig .tc := ⟨.hbm, 151, rfl⟩
abbrev main_v140 : Ref sig .tc := ⟨.hbm, 152, rfl⟩
abbrev main_v141 : Ref sig .tc := ⟨.hbm, 153, rfl⟩
abbrev main_v142 : Ref sig .tc := ⟨.hbm, 154, rfl⟩
abbrev main_v143 : Ref sig .tc := ⟨.hbm, 155, rfl⟩
abbrev main_v144 : Ref sig .tc := ⟨.hbm, 156, rfl⟩
abbrev main_v145 : Ref sig .tc := ⟨.hbm, 157, rfl⟩
abbrev main_v146 : Ref sig .tc := ⟨.hbm, 158, rfl⟩
abbrev main_cst_9 : Ref sig .tc := ⟨.hbm, 159, rfl⟩
abbrev main_v147 : Ref sig .tc := ⟨.hbm, 160, rfl⟩
abbrev main_v148 : Ref sig .tc := ⟨.hbm, 161, rfl⟩
abbrev main_v149 : Ref sig .tc := ⟨.hbm, 162, rfl⟩
abbrev main_v150 : Ref sig .tc := ⟨.hbm, 163, rfl⟩
abbrev main_v151 : Ref sig .tc := ⟨.hbm, 164, rfl⟩
abbrev main_v152 : Ref sig .tc := ⟨.hbm, 165, rfl⟩
abbrev main_v153 : Ref sig .tc := ⟨.hbm, 166, rfl⟩
abbrev main_v154 : Ref sig .tc := ⟨.hbm, 167, rfl⟩
abbrev main_v155 : Ref sig .tc := ⟨.hbm, 168, rfl⟩
abbrev main_v156 : Ref sig .tc := ⟨.hbm, 169, rfl⟩
abbrev main_v157 : Ref sig .tc := ⟨.hbm, 170, rfl⟩
abbrev main_v158 : Ref sig .tc := ⟨.hbm, 171, rfl⟩

abbrev nD : Nat := 1
abbrev τ : Topo := Topo.v7x

variable {F : FTy → Type} [FloatOps F]
-- ==== Proof.Mix.Rows.lean ====
module

public import Idealize.ShloMosaic.Lib.Pointwise
public import Idealize.ShloMosaic.Lib.ValueIdx

/-! The mixing block of one token, as functions of rows of extended reals: what both programs compute at
    every row of their arrays. -/

@[expose] public noncomputable section

open Idealize.ShloMosaic

namespace Mix

/-- A row times a matrix. -/
def dense {n p : ℕ} (v : Fin n → EReal) (w : Fin n → Fin p → EReal) (j : Fin p) : EReal := ∑ k, v k * w k j

/-- The gated half of a row of 1024: the first 512 entries, each scaled by the logistic of its partner. -/
def glu (z : Fin 1024 → EReal) (k : Fin 512) : EReal :=
  z ⟨k.val, by omega⟩ * Ideal.logistic (z ⟨512 + k.val, by omega⟩)

/-- A row of the two branches, each scaled by its gate, and added. -/
def mixed (x : Fin 1024 → EReal) (a g : Fin 512 → EReal) (wga wgs : Fin 1024 → Fin 1024 → EReal)
    (ba bs : Fin 1024 → EReal) (wattn wglu wssm : Fin 512 → Fin 1024 → EReal) (j : Fin 1024) : EReal :=
  Ideal.logistic (dense x wga j + ba j) * dense a wattn j
    + Ideal.logistic (dense x wgs j + bs j) * dense (glu (dense g wglu)) wssm j

/-- The residual sum: the row scaled by the residual constant, plus a branch. -/
def resid (x d : Fin 1024 → EReal) (j : Fin 1024) : EReal := Ideal.ofBits .f32 0x3F9837F0#32 * x j + d j

/-- The mean of a row. -/
def mean (h : Fin 1024 → EReal) : EReal := Ideal.div (∑ k, h k) (Ideal.ofBits .f32 0x44800000#32)

/-- The layer norm of a row, with its scale and its shift. -/
def norm (h γ β : Fin 1024 → EReal) (j : Fin 1024) : EReal :=
  (h j - mean h)
      * Ideal.rsqrt (mean (fun k => (h k - mean h) * (h k - mean h)) + Ideal.ofBits .f32 0x3727C5AC#32)
      * γ j + β j

/-- The hidden row of the feed-forward block: the gate times its logistic, times the other branch. -/
def hidden (h : Fin 1024 → EReal) (wg wu : Fin 1024 → Fin 2816 → EReal) (k : Fin 2816) : EReal :=
  dense h wg k * Ideal.logistic (dense h wg k) * dense h wu k

/-- The row after the mixing and the first layer norm. -/
def first (x : Fin 1024 → EReal) (a g : Fin 512 → EReal) (wga wgs : Fin 1024 → Fin 1024 → EReal)
    (ba bs : Fin 1024 → EReal) (wattn wglu wssm : Fin 512 → Fin 1024 → EReal)
    (wout : Fin 1024 → Fin 1024 → EReal) (γ β : Fin 1024 → EReal) : Fin 1024 → EReal :=
  norm (resid x (dense (mixed x a g wga wgs ba bs wattn wglu wssm) wout)) γ β

/-- The row after the feed-forward block and the second layer norm. -/
def second (h : Fin 1024 → EReal) (wg wu : Fin 1024 → Fin 2816 → EReal) (wd : Fin 2816 → Fin 1024 → EReal)
    (γ β : Fin 1024 → EReal) : Fin 1024 → EReal :=
  norm (resid h (dense (hidden h wg wu) wd)) γ β

/-- Equal rows, weights and columns give equal entries of the block's result. -/
theorem second_first_congr {x x' : Fin 1024 → EReal} {a a' g g' : Fin 512 → EReal}
    {wga wga' wgs wgs' : Fin 1024 → Fin 1024 → EReal} {ba ba' bs bs' : Fin 1024 → EReal}
    {wattn wattn' wglu wglu' wssm wssm' : Fin 512 → Fin 1024 → EReal} {wout wout' : Fin 1024 → Fin 1024 → EReal}
    {γ γ' β β' : Fin 1024 → EReal} {wg wg' wu wu' : Fin 1024 → Fin 2816 → EReal}
    {wd wd' : Fin 2816 → Fin 1024 → EReal} {δ δ' ε ε' : Fin 1024 → EReal} {j j' : Fin 1024}
    (hx : ∀ k, x k = x' k) (ha : ∀ k, a k = a' k) (hg : ∀ k, g k = g' k) (hwga : ∀ k l, wga k l = wga' k l)
    (hwgs : ∀ k l, wgs k l = wgs' k l) (hba : ∀ k, ba k = ba' k) (hbs : ∀ k, bs k = bs' k)
    (hwattn : ∀ k l, wattn k l = wattn' k l) (hwglu : ∀ k l, wglu k l = wglu' k l)
    (hwssm : ∀ k l, wssm k l = wssm' k l) (hwout : ∀ k l, wout k l = wout' k l) (hγ : ∀ k, γ k = γ' k)
    (hβ : ∀ k, β k = β' k) (hwg : ∀ k l, wg k l = wg' k l) (hwu : ∀ k l, wu k l = wu' k l)
    (hwd : ∀ k l, wd k l = wd' k l) (hδ : ∀ k, δ k = δ' k) (hε : ∀ k, ε k = ε' k) (hj : j = j') :
    second (first x a g wga wgs ba bs wattn wglu wssm wout γ β) wg wu wd δ ε j
      = second (first x' a' g' wga' wgs' ba' bs' wattn' wglu' wssm' wout' γ' β') wg' wu' wd' δ' ε' j' := by
  rw [funext hx, funext ha, funext hg, funext₂ hwga, funext₂ hwgs, funext hba, funext hbs, funext₂ hwattn,
    funext₂ hwglu, funext₂ hwssm, funext₂ hwout, funext hγ, funext hβ, funext₂ hwg, funext₂ hwu, funext₂ hwd,
    funext hδ, funext hε, hj]

end Mix
-- ==== Proof.Mix.Kernel.lean ====
module

public import proofs.«01_k».proof.Proof.Mix.Rows
public import proofs.«01_k».proof.Proof.Gen.Kernel2Ideal.Skeleton

/-! What the kernel stores in each of its two row tiles, read at a row and a column: the row functions of
    the tile's rows. -/

set_option maxRecDepth 16384

@[expose] public noncomputable section

open Idealize.ShloMosaic Idealize.ShloMosaic.TcCoe Idealize.SL.Sem
open Cert.Kernel2Ideal Cert.Kernel2Ideal.Gen

namespace Mix.Kernel

/-- Row `r` of a block of rows. -/
abbrev row {a b : ℕ} {φ : FTy} (X : FVec Ideal ⟨2, ![a, b]⟩ φ) (r : Fin a) (k : Fin b) : EReal := X (ix2 r k)

/-- A weight block as a matrix. -/
abbrev mat {a b : ℕ} {φ : FTy} (W : FVec Ideal ⟨2, ![a, b]⟩ φ) (k : Fin a) (j : Fin b) : EReal := W (ix2 k j)

variable (r : Fin 256) (j : Fin 1024)

/-! ## The stages of a tile -/

theorem glu_lo (g : FVec Ideal S256x512 .bf16) (w : FVec Ideal S512x1024 .bf16) (k : Fin 512) :
    k0_pay2 (F := Ideal) g w (ix2 r k) = glu (dense (row g r) (mat w)) k := by
  pointwise [k0_pay2]; rfl

theorem glu_hi (g : FVec Ideal S256x512 .bf16) (w : FVec Ideal S512x1024 .bf16) (k : Fin 512) :
    k0_pay3 (F := Ideal) g w (ix2 r k) = glu (dense (row g r) (mat w)) k := by
  pointwise [k0_pay3]; rfl

theorem gate_attn_lo (x : FVec Ideal S256x1024 .f32) (w : FVec Ideal S1024x1024 .bf16) (b : FVec Ideal S1x1024 .f32) :
    k0_pay5 (F := Ideal) x w b (ix2 r j) = Ideal.logistic (dense (row x r) (mat w) j + row b 0 j) := by
  pointwise [k0_pay5, k0_pay4]; rfl

theorem gate_ssm_lo (x : FVec Ideal S256x1024 .f32) (w : FVec Ideal S1024x1024 .bf16) (b : FVec Ideal S1x1024 .f32) :
    k0_pay6 (F := Ideal) x w b (ix2 r j) = Ideal.logistic (dense (row x r) (mat w) j + row b 0 j) := by
  pointwise [k0_pay6, k0_pay4]; rfl

theorem gate_attn_hi (x : FVec Ideal S256x1024 .f32) (w : FVec Ideal S1024x1024 .bf16) (b : FVec Ideal S1x1024 .f32) :
    k0_pay8 (F := Ideal) x w b (ix2 r j) = Ideal.logistic (dense (row x r) (mat w) j + row b 0 j) := by
  pointwise [k0_pay8, k0_pay7]; rfl

theorem ssm_hi (s : FVec Ideal S256x512 .bf16) (x : FVec Ideal S256x1024 .f32) (w : FVec Ideal S1024x1024 .bf16)
    (b : FVec Ideal S1x1024 .f32) (ws : FVec Ideal S512x1024 .bf16) :
    k0_pay9 (F := Ideal) s x w b ws (ix2 r j)
      = Ideal.logistic (dense (row x r) (mat w) j + row b 0 j) * dense (row s r) (mat ws) j := by
  pointwise [k0_pay9, k0_pay7]; rfl

theorem mixed_lo (s : FVec Ideal S256x512 .bf16) (ga gs : FVec Ideal S256x1024 .f32) (ws : FVec Ideal S512x1024 .bf16)
    (a : FVec Ideal S256x512 .bf16) (wa : FVec Ideal S512x1024 .bf16) :
    k0_pay10 (F := Ideal) s ga gs ws a wa (ix2 r j)
      = ga (ix2 r j) * dense (row a r) (mat wa) j + gs (ix2 r j) * dense (row s r) (mat ws) j := by
  pointwise [k0_pay10]; rfl

theorem attn_hi (a : FVec Ideal S256x512 .bf16) (wa : FVec Ideal S512x1024 .bf16) :
    k0_pay11 (F := Ideal) a wa (ix2 r j) = dense (row a r) (mat wa) j := by
  pointwise [k0_pay11]; rfl

theorem first_lo (v : FVec Ideal S256x1024 .bf16) (w : FVec Ideal S1024x1024 .bf16) (x : FVec Ideal S256x1024 .f32)
    (γ β : FVec Ideal S1x1024 .f32) :
    k0_pay12 (F := Ideal) v w x γ β (ix2 r j)
      = norm (resid (row x r) (dense (row v r) (mat w))) (row γ 0) (row β 0) j := by
  pointwise [k0_pay12]; rfl

theorem out_hi (ga s a : FVec Ideal S256x1024 .f32) (w : FVec Ideal S1024x1024 .bf16) :
    k0_pay13 (F := Ideal) ga s a w (ix2 r j)
      = dense (fun k => ga (ix2 r k) * a (ix2 r k) + s (ix2 r k)) (mat w) j := by
  pointwise [k0_pay13]; rfl

theorem first_hi (d x : FVec Ideal S256x1024 .f32) (γ β : FVec Ideal S1x1024 .f32) :
    k0_pay16 (F := Ideal) d (k0_pay14 x) k0_pay15 γ β (ix2 r j)
      = norm (resid (row x r) (row d r)) (row γ 0) (row β 0) j := by
  pointwise [k0_pay16, k0_pay15, k0_pay14]; rfl

theorem hidden_lo (h : FVec Ideal S256x1024 .f32) (wg wu : FVec Ideal S1024x2816 .bf16) (k : Fin 2816) :
    k0_pay17 (F := Ideal) h wg wu (ix2 r k) = hidden (row h r) (mat wg) (mat wu) k := by
  pointwise [k0_pay17]; rfl

theorem second_lo (h : FVec Ideal S256x1024 .f32) (f : FVec Ideal S256x2816 .bf16) (wd : FVec Ideal S2816x1024 .bf16)
    (γ β : FVec Ideal S1x1024 .f32) :
    k0_pay20 (F := Ideal) h f wd γ β (ix2 r j)
      = norm (resid (row h r) (dense (row f r) (mat wd))) (row γ 0) (row β 0) j := by
  pointwise [k0_pay20]; rfl

theorem resid_hi (d v x : FVec Ideal S256x1024 .f32) (γ β : FVec Ideal S1x1024 .f32)
    (wg wu : FVec Ideal S1024x2816 .bf16) (wd : FVec Ideal S2816x1024 .bf16) :
    k0_pay21 (F := Ideal) (k0_pay16 d v x γ β) (k0_pay18 d v x γ β) (k0_pay19 d v x γ β wg) wu
        (constant S256x2816 .f32 0x00000000#32) wd (ix2 r j)
      = resid (row (φ := .f32) (k0_pay16 (F := Ideal) d v x γ β) r)
          (dense (hidden (row (φ := .f32) (k0_pay16 (F := Ideal) d v x γ β) r) (mat wg) (mat wu)) (mat wd)) j := by
  pointwise [k0_pay21, k0_pay18, k0_pay19]; rfl

theorem second_hi (h : FVec Ideal S256x1024 .f32) (γ β : FVec Ideal S1x1024 .f32) :
    k0_pay1 (F := Ideal) h γ β (ix2 r j) = norm (row h r) (row γ 0) (row β 0) j := by
  pointwise [k0_pay1]; rfl

/-! ## The two tiles -/

variable (x : FVec Ideal S256x1024 .f32) (a g : FVec Ideal S256x512 .bf16) (wga wgs : FVec Ideal S1024x1024 .bf16)
  (ba bs : FVec Ideal S1x1024 .f32) (wattn wglu wssm : FVec Ideal S512x1024 .bf16)
  (wout : FVec Ideal S1024x1024 .bf16) (γ β : FVec Ideal S1x1024 .f32) (wg wu : FVec Ideal S1024x2816 .bf16)
  (wd : FVec Ideal S2816x1024 .bf16) (γ' β' : FVec Ideal S1x1024 .f32)

/-- The output row of row `r` of a tile. -/
abbrev outRow : Fin 1024 → EReal :=
  second (first (row x r) (row a r) (row g r) (mat wga) (mat wgs) (row ba 0) (row bs 0) (mat wattn) (mat wglu)
    (mat wssm) (mat wout) (row γ 0) (row β 0)) (mat wg) (mat wu) (mat wd) (row γ' 0) (row β' 0)

theorem tile_lo :
    k0_pay20 (F := Ideal)
        (k0_pay12 (k0_pay10 (k0_pay2 g wglu) (k0_pay5 x wga ba) (k0_pay6 x wgs bs) wssm a wattn) wout x γ β)
        (k0_pay17 (k0_pay12 (k0_pay10 (k0_pay2 g wglu) (k0_pay5 x wga ba) (k0_pay6 x wgs bs) wssm a wattn) wout x γ β)
          wg wu) wd γ' β' (ix2 r j)
      = outRow r x a g wga wgs ba bs wattn wglu wssm wout γ β wg wu wd γ' β' j := by
  have hmix : row (φ := .bf16) (k0_pay10 (F := Ideal) (k0_pay2 g wglu) (k0_pay5 x wga ba) (k0_pay6 x wgs bs) wssm a wattn) r
      = mixed (row x r) (row a r) (row g r) (mat wga) (mat wgs) (row ba 0) (row bs 0) (mat wattn) (mat wglu) (mat wssm) := by
    funext k
    have hg : row (φ := .bf16) (k0_pay2 (F := Ideal) g wglu) r = glu (dense (row g r) (mat wglu)) := funext fun l => glu_lo r g wglu l
    rw [row, mixed_lo, gate_attn_lo, gate_ssm_lo, hg]; rfl
  have hfirst : row (φ := .f32) (k0_pay12 (F := Ideal) (k0_pay10 (k0_pay2 g wglu) (k0_pay5 x wga ba) (k0_pay6 x wgs bs) wssm a wattn) wout x γ β) r
      = first (row x r) (row a r) (row g r) (mat wga) (mat wgs) (row ba 0) (row bs 0) (mat wattn) (mat wglu)
          (mat wssm) (mat wout) (row γ 0) (row β 0) := by
    funext k
    rw [row, first_lo, hmix]; rfl
  have hhid : row (φ := .bf16) (k0_pay17 (F := Ideal) (k0_pay12 (k0_pay10 (k0_pay2 g wglu) (k0_pay5 x wga ba) (k0_pay6 x wgs bs) wssm a wattn) wout x γ β) wg wu) r
      = hidden (first (row x r) (row a r) (row g r) (mat wga) (mat wgs) (row ba 0) (row bs 0) (mat wattn) (mat wglu)
          (mat wssm) (mat wout) (row γ 0) (row β 0)) (mat wg) (mat wu) := by
    funext k
    rw [row, hidden_lo, hfirst]
  rw [second_lo, hhid, hfirst]; rfl

theorem tile_hi :
    k0_pay1 (F := Ideal)
        (k0_pay21
          (k0_pay16 (k0_pay13 (k0_pay8 x wga ba) (k0_pay9 (k0_pay3 g wglu) x wgs bs wssm) (k0_pay11 a wattn) wout) (k0_pay14 x) k0_pay15 γ β)
          (k0_pay18 (k0_pay13 (k0_pay8 x wga ba) (k0_pay9 (k0_pay3 g wglu) x wgs bs wssm) (k0_pay11 a wattn) wout) (k0_pay14 x) k0_pay15 γ β)
          (k0_pay19 (k0_pay13 (k0_pay8 x wga ba) (k0_pay9 (k0_pay3 g wglu) x wgs bs wssm) (k0_pay11 a wattn) wout) (k0_pay14 x) k0_pay15 γ β wg)
          wu (constant S256x2816 .f32 0x00000000#32) wd) γ' β' (ix2 r j)
      = outRow r x a g wga wgs ba bs wattn wglu wssm wout γ β wg wu wd γ' β' j := by
  have hout : row (φ := .f32) (k0_pay13 (F := Ideal) (k0_pay8 x wga ba) (k0_pay9 (k0_pay3 g wglu) x wgs bs wssm) (k0_pay11 a wattn) wout) r
      = dense (mixed (row x r) (row a r) (row g r) (mat wga) (mat wgs) (row ba 0) (row bs 0) (mat wattn) (mat wglu) (mat wssm)) (mat wout) := by
    funext k
    have hg : row (φ := .bf16) (k0_pay3 (F := Ideal) g wglu) r = glu (dense (row g r) (mat wglu)) := funext fun l => glu_hi r g wglu l
    rw [row, out_hi]
    refine congrFun (congrFun (congrArg dense (funext fun l => ?_)) _) k
    rw [gate_attn_hi, attn_hi, ssm_hi, hg]; rfl
  have hfirst : row (φ := .f32) (k0_pay16 (F := Ideal) (k0_pay13 (k0_pay8 x wga ba) (k0_pay9 (k0_pay3 g wglu) x wgs bs wssm) (k0_pay11 a wattn) wout) (k0_pay14 x) k0_pay15 γ β) r
      = first (row x r) (row a r) (row g r) (mat wga) (mat wgs) (row ba 0) (row bs 0) (mat wattn) (mat wglu)
          (mat wssm) (mat wout) (row γ 0) (row β 0) := by
    funext k
    rw [row, first_hi, hout]; rfl
  have hres : row (φ := .f32) (k0_pay21 (F := Ideal)
          (k0_pay16 (k0_pay13 (k0_pay8 x wga ba) (k0_pay9 (k0_pay3 g wglu) x wgs bs wssm) (k0_pay11 a wattn) wout) (k0_pay14 x) k0_pay15 γ β)
          (k0_pay18 (k0_pay13 (k0_pay8 x wga ba) (k0_pay9 (k0_pay3 g wglu) x wgs bs wssm) (k0_pay11 a wattn) wout) (k0_pay14 x) k0_pay15 γ β)
          (k0_pay19 (k0_pay13 (k0_pay8 x wga ba) (k0_pay9 (k0_pay3 g wglu) x wgs bs wssm) (k0_pay11 a wattn) wout) (k0_pay14 x) k0_pay15 γ β wg)
          wu (constant S256x2816 .f32 0x00000000#32) wd) r
      = resid (first (row x r) (row a r) (row g r) (mat wga) (mat wgs) (row ba 0) (row bs 0) (mat wattn) (mat wglu)
          (mat wssm) (mat wout) (row γ 0) (row β 0))
          (dense (hidden (first (row x r) (row a r) (row g r) (mat wga) (mat wgs) (row ba 0) (row bs 0) (mat wattn) (mat wglu)
          (mat wssm) (mat wout) (row γ 0) (row β 0)) (mat wg) (mat wu)) (mat wd)) := by
    funext k
    rw [row, resid_hi, hfirst]
  rw [second_hi, hres]; rfl

end Mix.Kernel
-- ==== Proof.Mix.Reference.lean ====
module

public import proofs.«01_k».proof.Proof.Mix.Rows
public import proofs.«01_k».proof.Proof.Gen.Reference2Ideal.Read

/-! The reference, read at a row and a column: the row functions of the row of its arguments. -/

set_option maxRecDepth 16384

@[expose] public noncomputable section

open Idealize.ShloMosaic Idealize.ShloMosaic.TcCoe Idealize.SL.Sem
open Cert.Reference2Ideal Cert.Reference2Ideal.Read

namespace Mix.Reference

/-- Row `n` of the tokens of an array of 8 sequences of 2048. -/
abbrev token {b : ℕ} {φ : FTy} (X : FVec Ideal ⟨3, ![8, 2048, b]⟩ φ) (n : Fin 16384) (k : Fin b) : EReal :=
  X (ix3 ⟨n.val / 2048, by omega⟩ ⟨n.val % 2048, by omega⟩ k)

/-- A weight array as a matrix. -/
abbrev mat {a b : ℕ} {φ : FTy} (W : FVec Ideal ⟨2, ![a, b]⟩ φ) (k : Fin a) (j : Fin b) : EReal := W (ix2 k j)

/-- A vector as a row. -/
abbrev vec {a : ℕ} {φ : FTy} (v : FVec Ideal ⟨1, ![a]⟩ φ) (k : Fin a) : EReal := v (ix1 k)

variable (n : Fin 16384) (j : Fin 1024)
  (x : FVec Ideal S8x2048x1024 .f32) (a g : FVec Ideal S8x2048x512 .bf16) (wga wgs : FVec Ideal S1024x1024 .bf16)
  (bg : FVec Ideal S2x1024 .f32) (wattn wglu wssm : FVec Ideal S512x1024 .bf16)
  (wout : FVec Ideal S1024x1024 .bf16) (γ β : FVec Ideal S1024 .f32) (wg wu : FVec Ideal S1024x2816 .bf16)
  (wd : FVec Ideal S2816x1024 .bf16) (γ' β' : FVec Ideal S1024 .f32)

theorem mixed_at : val_main_v48 (F := Ideal) x a g wga wgs bg wattn wglu wssm (ix2 n j)
    = mixed (token x n) (token a n) (token g n) (mat wga) (mat wgs) (mat bg 0) (mat bg 1) (mat wattn) (mat wglu)
        (mat wssm) j := by
  pointwise [
    val_main_v0, val_main_v1, val_main_v2, val_main_v3, val_main_v4, val_main_v5, val_main_v6, val_main_v7,
    val_main_v8, val_main_v9, val_main_v10, val_main_v11, val_main_v12, val_main_cst, val_main_v13,
    val_main_v14, val_main_cst_0, val_main_v15, val_main_v16, val_main_v17, val_main_v18, val_main_v19,
    val_main_v20, val_main_v21, val_main_v22, val_main_v23, val_main_v24, val_main_v25, val_main_v26,
    val_main_v27, val_main_v28, val_main_cst_1, val_main_v29, val_main_v30, val_main_cst_2, val_main_v31,
    val_main_v32, val_main_v33, val_main_v34, val_main_v35, val_main_v36, val_main_v37, val_main_v38,
    val_main_v39, val_main_v40, val_main_v41, val_main_cst_3, val_main_v42, val_main_v43, val_main_cst_4,
    val_main_v44, val_main_v45, val_main_v46, val_main_v47, val_main_v48]
  rfl

theorem resid_at : val_main_v53 (F := Ideal) x a g wga wgs bg wattn wglu wssm wout (ix2 n j)
    = resid (token x n) (dense (fun k => val_main_v48 (F := Ideal) x a g wga wgs bg wattn wglu wssm (ix2 n k)) (mat wout)) j := by
  pointwise [
    val_main_v0, val_main_v49, val_main_v50, val_main_cst_5, val_main_v51, val_main_v52, val_main_v53]
  rfl

theorem first_at : val_main_v77 (F := Ideal) x a g wga wgs bg wattn wglu wssm wout γ β (ix2 n j)
    = norm (fun k => val_main_v53 (F := Ideal) x a g wga wgs bg wattn wglu wssm wout (ix2 n k)) (vec γ) (vec β) j := by
  pointwise [
    val_main_cst_6, val_main_v54, val_main_v55, val_main_cst_7, val_main_v56, val_main_v57, val_main_v58,
    val_main_v59, val_main_v60, val_main_cst_8, val_main_v61, val_main_v62, val_main_cst_9, val_main_v63,
    val_main_v64, val_main_v65, val_main_v66, val_main_cst_10, val_main_v67, val_main_v68, val_main_v69,
    val_main_v70, val_main_v71, val_main_v72, val_main_v73, val_main_v74, val_main_v75, val_main_v76,
    val_main_v77]
  rfl

theorem hidden_at (k : Fin 2816) : val_main_v83 (F := Ideal) x a g wga wgs bg wattn wglu wssm wout γ β wg wu (ix2 n k)
    = hidden (fun k => val_main_v77 (F := Ideal) x a g wga wgs bg wattn wglu wssm wout γ β (ix2 n k)) (mat wg) (mat wu) k := by
  pointwise [
    val_main_v78, val_main_v79, val_main_call0_v0, val_main_call0_v1, val_main_call0_cst,
    val_main_call0_v2, val_main_call0_v3, val_main_call0_cst_0, val_main_call0_v4, val_main_call0_v5,
    val_main_v80, val_main_v81, val_main_v82, val_main_v83]
  rfl

theorem resid2_at : val_main_v88 (F := Ideal) x a g wga wgs bg wattn wglu wssm wout γ β wg wu wd (ix2 n j)
    = resid (fun k => val_main_v77 (F := Ideal) x a g wga wgs bg wattn wglu wssm wout γ β (ix2 n k))
        (dense (fun k => val_main_v83 (F := Ideal) x a g wga wgs bg wattn wglu wssm wout γ β wg wu (ix2 n k)) (mat wd)) j := by
  pointwise [
    val_main_v84, val_main_v85, val_main_cst_11, val_main_v86, val_main_v87, val_main_v88]
  rfl

theorem second_at : val_main_v112 (F := Ideal) x a g wga wgs bg wattn wglu wssm wout γ β wg wu wd γ' β' (ix2 n j)
    = norm (fun k => val_main_v88 (F := Ideal) x a g wga wgs bg wattn wglu wssm wout γ β wg wu wd (ix2 n k)) (vec γ') (vec β') j := by
  pointwise [
    val_main_cst_12, val_main_v89, val_main_v90, val_main_cst_13, val_main_v91, val_main_v92, val_main_v93,
    val_main_v94, val_main_v95, val_main_cst_14, val_main_v96, val_main_v97, val_main_cst_15, val_main_v98,
    val_main_v99, val_main_v100, val_main_v101, val_main_cst_16, val_main_v102, val_main_v103,
    val_main_v104, val_main_v105, val_main_v106, val_main_v107, val_main_v108, val_main_v109,
    val_main_v110, val_main_v111, val_main_v112]
  rfl

/-- The output row of token `n`. -/
abbrev outRow : Fin 1024 → EReal :=
  second (first (token x n) (token a n) (token g n) (mat wga) (mat wgs) (mat bg 0) (mat bg 1) (mat wattn) (mat wglu)
    (mat wssm) (mat wout) (vec γ) (vec β)) (mat wg) (mat wu) (mat wd) (vec γ') (vec β')

/-- The reference's result at a row and a column. -/
theorem result_at : val_main_v112 (F := Ideal) x a g wga wgs bg wattn wglu wssm wout γ β wg wu wd γ' β' (ix2 n j)
    = outRow n x a g wga wgs bg wattn wglu wssm wout γ β wg wu wd γ' β' j := by
  have h1 := funext fun k => mixed_at n k x a g wga wgs bg wattn wglu wssm
  have h2 := funext fun k => resid_at n k x a g wga wgs bg wattn wglu wssm wout
  have h3 := funext fun k => first_at n k x a g wga wgs bg wattn wglu wssm wout γ β
  have h4 := funext fun k => hidden_at n x a g wga wgs bg wattn wglu wssm wout γ β wg wu k
  have h5 := funext fun k => resid2_at n k x a g wga wgs bg wattn wglu wssm wout γ β wg wu wd
  rw [second_at, h5, h4, h3, h2, h1]; rfl

/-- The result array, as a function of the arguments the launch memory holds. -/
def result (m : (ℓ : Loc nD τ sig) → Buf (Elt Ideal) ℓ) (c : Dev nD) (i : S16384x1024.Idx) : EReal :=
  outRow (i 0)
      (m ((c.tc : Thread nD τ).loc main_arg0)) (m ((c.tc : Thread nD τ).loc main_arg1))
      (m ((c.tc : Thread nD τ).loc main_arg2)) (m ((c.tc : Thread nD τ).loc main_arg3))
      (m ((c.tc : Thread nD τ).loc main_arg4)) (m ((c.tc : Thread nD τ).loc main_arg5))
      (m ((c.tc : Thread nD τ).loc main_arg6)) (m ((c.tc : Thread nD τ).loc main_arg7))
      (m ((c.tc : Thread nD τ).loc main_arg8)) (m ((c.tc : Thread nD τ).loc main_arg9))
      (m ((c.tc : Thread nD τ).loc main_arg10)) (m ((c.tc : Thread nD τ).loc main_arg11))
      (m ((c.tc : Thread nD τ).loc main_arg12)) (m ((c.tc : Thread nD τ).loc main_arg13))
      (m ((c.tc : Thread nD τ).loc main_arg14)) (m ((c.tc : Thread nD τ).loc main_arg15))
      (m ((c.tc : Thread nD τ).loc main_arg16))
      (i 1)

/-- The reference's run leaves that array, and its arguments as they were. -/
theorem run_result (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c.tc : Thread nD τ).loc main_v112) = result m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16) := by
  refine (θ_run defs _ _).mono (fun r h c => ⟨(h c).1.trans ?_, (h c).2⟩) (Cert.Reference2Ideal.Value.run m ρ)
  refine (val_main_v112_eq (F := Ideal) (StableHlo.launchContents m c)).trans (funext fun i => ?_)
  idx_vars i
  exact result_at i0 i1 _ _ _ _ _ _ _ _ _ _ _ _ _ _ _ _ _

end Mix.Reference
-- ==== Proof.Mix.Blocks.lean ====
module

public import proofs.«01_k».proof.Proof.Mix.Kernel
public import proofs.«01_k».proof.Proof.Mix.Reference
public import proofs.«01_k».proof.Proof.Gen.Kernel2Ideal.Frame
public import Idealize.ShloMosaic.Lib.Pipeline.ValueKit

/-! The array the kernel's run leaves: row `n` of it is the row function of row `n` of the arguments. -/

set_option maxRecDepth 16384

@[expose] public noncomputable section

open Idealize.ShloMosaic Idealize.ShloMosaic.TcCoe Idealize.SL.Sem
open Idealize.ShloMosaic.Pipeline (Dat)
open Cert.Kernel2Ideal Cert.Kernel2Ideal.Gen

namespace Mix.Blocks

variable (m : (ℓ : Loc nD τ sig) → Buf (Elt Ideal) ℓ)

/-- The result, as a function of the arguments the launch memory holds. -/
def result (c : Dev nD) (i : S16384x1024.Idx) : EReal :=
  Reference.outRow (i 0) (m ((c : Thread nD τ).loc main_arg0)) (m ((c : Thread nD τ).loc main_arg1))
    (m ((c : Thread nD τ).loc main_arg2)) (m ((c : Thread nD τ).loc main_arg3)) (m ((c : Thread nD τ).loc main_arg4))
    (m ((c : Thread nD τ).loc main_arg5)) (m ((c : Thread nD τ).loc main_arg6)) (m ((c : Thread nD τ).loc main_arg7))
    (m ((c : Thread nD τ).loc main_arg8)) (m ((c : Thread nD τ).loc main_arg9)) (m ((c : Thread nD τ).loc main_arg10))
    (m ((c : Thread nD τ).loc main_arg11)) (m ((c : Thread nD τ).loc main_arg12)) (m ((c : Thread nD τ).loc main_arg13))
    (m ((c : Thread nD τ).loc main_arg14)) (m ((c : Thread nD τ).loc main_arg15)) (m ((c : Thread nD τ).loc main_arg16))
    (i 1)

theorem idx : ∀ t : Fin cfg0.N, win0_0.index t = ![t.val, 0] ∧ win0_1.index t = ![t.val, 0]
    ∧ win0_2.index t = ![t.val, 0] ∧ win0_3.index t = ![0, 0] ∧ win0_4.index t = ![0, 0]
    ∧ win0_5.index t = ![0, 0] ∧ win0_6.index t = ![0, 0] ∧ win0_7.index t = ![0, 0] ∧ win0_8.index t = ![0, 0]
    ∧ win0_9.index t = ![0, 0] ∧ win0_10.index t = ![0, 0] ∧ win0_11.index t = ![0, 0] ∧ win0_12.index t = ![0, 0]
    ∧ win0_13.index t = ![0, 0] ∧ win0_14.index t = ![0, 0] ∧ win0_15.index t = ![0, 0] ∧ win0_16.index t = ![0, 0]
    ∧ win0_17.index t = ![t.val, 0] :=
  (by decide +kernel : ∀ t : Fin grid0.N, _)

/-! ## The blocks of a grid point, read at a row and a column -/

variable (c : Dev nD) (t : Fin cfg0.N)

theorem blk0 (r : Fin 512) (k : Fin 1024) (n : Fin 16384) (hn : (n : ℕ) = 512 * t + r) :
    iblk m c 0 t (ix2 r k : S512x1024.Idx) = Reference.token (φ := .f32) (m ((c : Thread nD τ).loc main_arg0)) n k := by
  refine Eq.trans (b := V m c main_v0 (ix2 n k : S16384x1024.Idx)) ?_ ?_
  · blk_ext [iblk, idx t]
  · entry_read
    pointwise
    all_goals rfl

theorem blk1 (r : Fin 512) (k : Fin 512) (n : Fin 16384) (hn : (n : ℕ) = 512 * t + r) :
    iblk m c 1 t (ix2 r k : S512x512.Idx) = Reference.token (φ := .bf16) (m ((c : Thread nD τ).loc main_arg1)) n k := by
  refine Eq.trans (b := V m c main_v1 (ix2 n k : S16384x512.Idx)) ?_ ?_
  · blk_ext [iblk, idx t]
  · entry_read
    pointwise
    all_goals rfl

theorem blk2 (r : Fin 512) (k : Fin 512) (n : Fin 16384) (hn : (n : ℕ) = 512 * t + r) :
    iblk m c 2 t (ix2 r k : S512x512.Idx) = Reference.token (φ := .bf16) (m ((c : Thread nD τ).loc main_arg2)) n k := by
  refine Eq.trans (b := V m c main_v2 (ix2 n k : S16384x512.Idx)) ?_ ?_
  · blk_ext [iblk, idx t]
  · entry_read
    pointwise
    all_goals rfl

theorem blk3 (k : Fin 1024) (l : Fin 1024) :
    iblk m c 3 t (ix2 k l : S1024x1024.Idx) = m ((c : Thread nD τ).loc main_arg3) (ix2 k l) := by
  blk_ext [iblk, V, idx t]

theorem blk4 (k : Fin 1024) (l : Fin 1024) :
    iblk m c 4 t (ix2 k l : S1024x1024.Idx) = m ((c : Thread nD τ).loc main_arg4) (ix2 k l) := by
  blk_ext [iblk, V, idx t]

theorem blk6 (k : Fin 512) (l : Fin 1024) :
    iblk m c 6 t (ix2 k l : S512x1024.Idx) = m ((c : Thread nD τ).loc main_arg6) (ix2 k l) := by
  blk_ext [iblk, V, idx t]

theorem blk7 (k : Fin 512) (l : Fin 1024) :
    iblk m c 7 t (ix2 k l : S512x1024.Idx) = m ((c : Thread nD τ).loc main_arg7) (ix2 k l) := by
  blk_ext [iblk, V, idx t]

theorem blk8 (k : Fin 512) (l : Fin 1024) :
    iblk m c 8 t (ix2 k l : S512x1024.Idx) = m ((c : Thread nD τ).loc main_arg8) (ix2 k l) := by
  blk_ext [iblk, V, idx t]

theorem blk9 (k : Fin 1024) (l : Fin 1024) :
    iblk m c 9 t (ix2 k l : S1024x1024.Idx) = m ((c : Thread nD τ).loc main_arg9) (ix2 k l) := by
  blk_ext [iblk, V, idx t]

theorem blk12 (k : Fin 1024) (l : Fin 2816) :
    iblk m c 12 t (ix2 k l : S1024x2816.Idx) = m ((c : Thread nD τ).loc main_arg12) (ix2 k l) := by
  blk_ext [iblk, V, idx t]

theorem blk13 (k : Fin 1024) (l : Fin 2816) :
    iblk m c 13 t (ix2 k l : S1024x2816.Idx) = m ((c : Thread nD τ).loc main_arg13) (ix2 k l) := by
  blk_ext [iblk, V, idx t]

theorem blk14 (k : Fin 2816) (l : Fin 1024) :
    iblk m c 14 t (ix2 k l : S2816x1024.Idx) = m ((c : Thread nD τ).loc main_arg14) (ix2 k l) := by
  blk_ext [iblk, V, idx t]

theorem blk5 (k : Fin 2048) (i : Fin 2) (j : Fin 1024) (h : (k : ℕ) = 1024 * i + j) :
    iblk m c 5 t (ix2 0 k : S1x2048.Idx) = m ((c : Thread nD τ).loc main_arg5) (ix2 i j) := by
  refine Eq.trans (b := V m c main_v3 (ix2 0 k : S1x2048.Idx)) ?_ ?_
  · blk_ext [iblk, idx t]
  · entry_read
    pointwise
    all_goals blk_ext

theorem blk10 (k : Fin 1024) :
    iblk m c 10 t (ix2 0 k : S1x1024.Idx) = m ((c : Thread nD τ).loc main_arg10) (ix1 k) := by
  refine Eq.trans (b := V m c main_v4 (ix2 0 k : S1x1024.Idx)) ?_ ?_
  · blk_ext [iblk, idx t]
  · entry_read
    pointwise
    all_goals rfl

theorem blk11 (k : Fin 1024) :
    iblk m c 11 t (ix2 0 k : S1x1024.Idx) = m ((c : Thread nD τ).loc main_arg11) (ix1 k) := by
  refine Eq.trans (b := V m c main_v5 (ix2 0 k : S1x1024.Idx)) ?_ ?_
  · blk_ext [iblk, idx t]
  · entry_read
    pointwise
    all_goals rfl

theorem blk15 (k : Fin 1024) :
    iblk m c 15 t (ix2 0 k : S1x1024.Idx) = m ((c : Thread nD τ).loc main_arg15) (ix1 k) := by
  refine Eq.trans (b := V m c main_v6 (ix2 0 k : S1x1024.Idx)) ?_ ?_
  · blk_ext [iblk, idx t]
  · entry_read
    pointwise
    all_goals rfl

theorem blk16 (k : Fin 1024) :
    iblk m c 16 t (ix2 0 k : S1x1024.Idx) = m ((c : Thread nD τ).loc main_arg16) (ix1 k) := by
  refine Eq.trans (b := V m c main_v7 (ix2 0 k : S1x1024.Idx)) ?_ ?_
  · blk_ext [iblk, idx t]
  · entry_read
    pointwise
    all_goals rfl

set_option maxHeartbeats 1000000 in
/-- What the body leaves at row and column `y` of its output block is the result there. -/
theorem point (y : S512x1024.Idx) :
    out0_17 (iblk m c 0 t) (iblk m c 1 t) (iblk m c 2 t) (iblk m c 3 t) (iblk m c 4 t) (iblk m c 5 t) (iblk m c 6 t)
        (iblk m c 7 t) (iblk m c 8 t) (iblk m c 9 t) (iblk m c 10 t) (iblk m c 11 t) (iblk m c 12 t) (iblk m c 13 t)
        (iblk m c 14 t) (iblk m c 15 t) (iblk m c 16 t) y
      = result m c (((cfg0.win 17).blk t).view.emb y) := by
  unfold_out out0_17
  unfold result
  canon_tiles x h
  · idx_vars x
    have hn : ((((cfg0.win 17).blk t).view.emb y 0 : Fin 16384) : ℕ) = 512 * t + (256 + (x0 : ℕ)) := by
      blk_simp [idx t] <;> omega
    have hj : x1 = (((cfg0.win 17).blk t).view.emb y 1 : Fin 1024) := by
      apply Fin.ext
      blk_simp [idx t] <;> omega
    refine (Kernel.tile_hi _ _ _ _ _ _ _ _ _ _ _ _ _ _ _ _ _ _ _ _).trans ?_
    refine second_first_congr
      (fun k => ?_) (fun k => ?_) (fun k => ?_) (fun k l => ?_) (fun k l => ?_) (fun k => ?_) (fun k => ?_)
      (fun k l => ?_) (fun k l => ?_) (fun k l => ?_) (fun k l => ?_) (fun k => ?_) (fun k => ?_)
      (fun k l => ?_) (fun k l => ?_) (fun k l => ?_) (fun k => ?_) (fun k => ?_) hj
    · pointwise [Kernel.row, Kernel.mat]; exact blk0 m c t _ k _ hn
    · pointwise [Kernel.row, Kernel.mat]; exact blk1 m c t _ k _ hn
    · pointwise [Kernel.row, Kernel.mat]; exact blk2 m c t _ k _ hn
    · pointwise [Kernel.row, Kernel.mat]; exact blk3 m c t k l
    · pointwise [Kernel.row, Kernel.mat]; exact blk4 m c t k l
    · pointwise [Kernel.row, Kernel.mat]; exact blk5 m c t _ 0 k (by simp)
    · pointwise [Kernel.row, Kernel.mat]; exact blk5 m c t _ 1 k (by simp)
    · pointwise [Kernel.row, Kernel.mat]; exact blk6 m c t k l
    · pointwise [Kernel.row, Kernel.mat]; exact blk7 m c t k l
    · pointwise [Kernel.row, Kernel.mat]; exact blk8 m c t k l
    · pointwise [Kernel.row, Kernel.mat]; exact blk9 m c t k l
    · pointwise [Kernel.row, Kernel.mat]; exact blk10 m c t k
    · pointwise [Kernel.row, Kernel.mat]; exact blk11 m c t k
    · pointwise [Kernel.row, Kernel.mat]; exact blk12 m c t k l
    · pointwise [Kernel.row, Kernel.mat]; exact blk13 m c t k l
    · pointwise [Kernel.row, Kernel.mat]; exact blk14 m c t k l
    · pointwise [Kernel.row, Kernel.mat]; exact blk15 m c t k
    · pointwise [Kernel.row, Kernel.mat]; exact blk16 m c t k
  · idx_vars x
    have hn : ((((cfg0.win 17).blk t).view.emb y 0 : Fin 16384) : ℕ) = 512 * t + x0 := by
      blk_simp [idx t] <;> omega
    have hj : x1 = (((cfg0.win 17).blk t).view.emb y 1 : Fin 1024) := by
      apply Fin.ext
      blk_simp [idx t] <;> omega
    refine (Kernel.tile_lo _ _ _ _ _ _ _ _ _ _ _ _ _ _ _ _ _ _ _ _).trans ?_
    refine second_first_congr
      (fun k => ?_) (fun k => ?_) (fun k => ?_) (fun k l => ?_) (fun k l => ?_) (fun k => ?_) (fun k => ?_)
      (fun k l => ?_) (fun k l => ?_) (fun k l => ?_) (fun k l => ?_) (fun k => ?_) (fun k => ?_)
      (fun k l => ?_) (fun k l => ?_) (fun k l => ?_) (fun k => ?_) (fun k => ?_) hj
    · pointwise [Kernel.row, Kernel.mat]; exact blk0 m c t _ k _ hn
    · pointwise [Kernel.row, Kernel.mat]; exact blk1 m c t _ k _ hn
    · pointwise [Kernel.row, Kernel.mat]; exact blk2 m c t _ k _ hn
    · pointwise [Kernel.row, Kernel.mat]; exact blk3 m c t k l
    · pointwise [Kernel.row, Kernel.mat]; exact blk4 m c t k l
    · pointwise [Kernel.row, Kernel.mat]; exact blk5 m c t _ 0 k (by simp)
    · pointwise [Kernel.row, Kernel.mat]; exact blk5 m c t _ 1 k (by simp)
    · pointwise [Kernel.row, Kernel.mat]; exact blk6 m c t k l
    · pointwise [Kernel.row, Kernel.mat]; exact blk7 m c t k l
    · pointwise [Kernel.row, Kernel.mat]; exact blk8 m c t k l
    · pointwise [Kernel.row, Kernel.mat]; exact blk9 m c t k l
    · pointwise [Kernel.row, Kernel.mat]; exact blk10 m c t k
    · pointwise [Kernel.row, Kernel.mat]; exact blk11 m c t k
    · pointwise [Kernel.row, Kernel.mat]; exact blk12 m c t k l
    · pointwise [Kernel.row, Kernel.mat]; exact blk13 m c t k l
    · pointwise [Kernel.row, Kernel.mat]; exact blk14 m c t k l
    · pointwise [Kernel.row, Kernel.mat]; exact blk15 m c t k
    · pointwise [Kernel.row, Kernel.mat]; exact blk16 m c t k

/-- The array the run leaves. -/
theorem final : (dats m 0 c).arrAt 17 cfg0.N = result m c := by
  refine (dats m 0 c).arrAt_eq_of_covers 17 _ (by decide +kernel) fun t _ y => ?_
  blk_simp
  rw [after0_17]
  exact point m c t y

end Mix.Blocks
-- ==== Proof.Proj.Cuts.lean ====
module

public import proofs.«01_k».proof.Proof.Gen.Kernel3Ideal.Value
public import Idealize.ShloMosaic.Lib.Pipeline.ValueKit
public import Idealize.ShloMosaic.Lib.WholeRead

/-! The rows of a tile in the orders the body reads them, as concatenations of strided loads, read at a row. -/

set_option maxRecDepth 16384

@[expose] public noncomputable section

open Idealize.ShloMosaic Idealize.ShloMosaic.TcCoe Idealize.SL.Sem
open Cert.Kernel3Ideal Cert.Kernel3Ideal.Gen

namespace Proj.Cuts

/-! ## Loads of rows a fixed distance apart -/

/-- `n` rows of a slab from row `o`, `d` apart. -/
def slabRect (n d o : ℕ) (h : o + d * (n - 1) < 512) : LoadRect S1x512x128 :=
  { off := ![0, o, 0], size := ![1, n, 128], stride := ![1, d, 1]
    inb := by
      intro a
      fin_cases a
      · exact Or.inr (show 0 + 1 * 0 < 1 by decide)
      · exact Or.inr h
      · exact Or.inr (show 0 + 1 * 127 < 128 by decide) }

/-- `n` rows of a table from row `o`, `d` apart. -/
def tabRect (n d o : ℕ) (h : o + d * (n - 1) < 512) : LoadRect S512x128 :=
  { off := ![o, 0], size := ![n, 128], stride := ![d, 1]
    inb := by
      intro a
      fin_cases a
      · exact Or.inr h
      · exact Or.inr (show 0 + 1 * 127 < 128 by decide) }

theorem drops (n : ℕ) : (⟨3, ![1, n, 128]⟩ : Shape).ShapeCasts ⟨2, ![n, 128]⟩ := by
  simp [Shape.ShapeCasts, Shape.numel, Fin.prod_univ_succ]

theorem keeps (n : ℕ) : (⟨2, ![n, 128]⟩ : Shape).ShapeCasts ⟨2, ![n, 128]⟩ := rfl

variable (M : Memref sig .tc .vmem S1x512x128 .f32) (hM : M.IsWhole) (x : Vec Ideal S1x512x128 .f32)
variable (T : Memref sig .tc .vmem S512x128 .f32) (hT : T.IsWhole) (y : Vec Ideal S512x128 .f32)

/-- `n` rows of a slab from row `o`, `d` apart, as the body holds them. -/
def slabCut (n d o : ℕ) (h : o + d * (n - 1) < 512) : FVec Ideal ⟨2, ![n, 128]⟩ .f32 :=
  shapeCast ⟨2, ![n, 128]⟩ (View.readAt (Elt Ideal) M.view (slabRect n d o h) (hM.unread x)) (drops n)

/-- `n` rows of a table from row `o`, `d` apart, as the body holds them. -/
def tabCut (n d o : ℕ) (h : o + d * (n - 1) < 512) : FVec Ideal ⟨2, ![n, 128]⟩ .f32 :=
  shapeCast ⟨2, ![n, 128]⟩ (View.readAt (Elt Ideal) T.view (tabRect n d o h) (hT.unread y)) (keeps n)

theorem slabCut_apply (n d o : ℕ) (h : o + d * (n - 1) < 512) (r : Fin n) (l : Fin 128) (q : Fin 512)
    (hq : (q : ℕ) = o + d * r) : slabCut M hM x n d o h (ix2 r l) = x (ix3 0 q l) := by
  unfold slabCut
  refine (shapeCast_dropUnit_apply (![n, 128]) _ _ _).trans ((Memref.IsWhole.readAt_unread hM x (slabRect n d o h) _).trans (congrArg x ?_))
  funext a
  apply Fin.ext
  fin_cases a
  · rfl
  · exact hq.symm
  · exact (Nat.zero_add _).trans (Nat.one_mul _)

theorem tabCut_apply (n d o : ℕ) (h : o + d * (n - 1) < 512) (r : Fin n) (l : Fin 128) (q : Fin 512)
    (hq : (q : ℕ) = o + d * r) : tabCut T hT y n d o h (ix2 r l) = y (ix2 q l) := by
  unfold tabCut
  refine (congrFun (shapeCast_self (s := ⟨2, ![n, 128]⟩) _ (keeps n)) _).trans ?_
  refine (Memref.IsWhole.readAt_unread hT y (tabRect n d o h) _).trans (congrArg y ?_)
  funext a
  apply Fin.ext
  fin_cases a
  · exact hq.symm
  · exact (Nat.zero_add _).trans (Nat.one_mul _)

/-! ## Rows of pieces one below the other -/

/-- `N` pieces of `n` rows, one below the other. -/
def stack (n N : ℕ) (f : Fin N → FVec Ideal ⟨2, ![n, 128]⟩ .f32)
    (h : Shape.Concatenates ((List.ofFn fun p : Fin N => (⟨⟨2, ![n, 128]⟩, f p⟩ : (s : Shape) × (s.Idx → EReal))).map (·.1))
      S512x128 0) : FVec Ideal S512x128 .f32 :=
  concatenate S512x128 0 (List.ofFn fun p : Fin N => (⟨⟨2, ![n, 128]⟩, f p⟩ : (s : Shape) × (s.Idx → EReal))) h

theorem stack_apply (n N : ℕ) (f : Fin N → FVec Ideal ⟨2, ![n, 128]⟩ .f32) (h) (r : Fin 512) (l : Fin 128) (p : Fin N)
    (i : Fin n) (hp : (r : ℕ) / n = p) (hi : (i : ℕ) = r % n) : stack n N f h (ix2 r l) = f p (ix2 i l) := by
  unfold stack
  refine concatenate_ofFn_apply 0 f h rfl n rfl (ix2 r l) p hp (ix2 i l) hi ?_
  intro b hb
  fin_cases b
  · exact absurd rfl hb
  · rfl

theorem off4 (p : Fin 4) : (p : ℕ) + 4 * (128 - 1) < 512 := by omega
theorem off16 (p : Fin 16) : (p : ℕ) + 16 * (32 - 1) < 512 := by omega
theorem off64 (p : Fin 64) : 128 * ((p : ℕ) / 16) + (p : ℕ) % 16 + 16 * (8 - 1) < 512 := by omega

theorem stacks4 (f : Fin 4 → FVec Ideal ⟨2, ![128, 128]⟩ .f32) :
    Shape.Concatenates ((List.ofFn fun p : Fin 4 => (⟨⟨2, ![128, 128]⟩, f p⟩ : (s : Shape) × (s.Idx → EReal))).map (·.1))
      S512x128 0 := concatenates_S128x128_S128x128_S128x128_S128x128_S512x128_d0

theorem stacks16 (f : Fin 16 → FVec Ideal ⟨2, ![32, 128]⟩ .f32) :
    Shape.Concatenates ((List.ofFn fun p : Fin 16 => (⟨⟨2, ![32, 128]⟩, f p⟩ : (s : Shape) × (s.Idx → EReal))).map (·.1))
      S512x128 0 := concatenates_S32x128_S32x128_S32x128_S32x128_S32x128_S32x128_S32x128_S32x128_S32x128_S32x128_S32x128_S32x128_S32x128_S32x128_S32x128_S32x128_S512x128_d0

theorem stacks64 (f : Fin 64 → FVec Ideal ⟨2, ![8, 128]⟩ .f32) :
    Shape.Concatenates ((List.ofFn fun p : Fin 64 => (⟨⟨2, ![8, 128]⟩, f p⟩ : (s : Shape) × (s.Idx → EReal))).map (·.1))
      S512x128 0 := by
  have e : (List.ofFn fun p : Fin 64 => (⟨⟨2, ![8, 128]⟩, f p⟩ : (s : Shape) × (s.Idx → EReal))).map (·.1)
      = List.replicate 64 (⟨2, ![8, 128]⟩ : Shape) := rfl
  rw [e]
  exact ⟨by decide, by decide, by decide⟩

/-- A slab, its rows in the order of the sequence. -/
def slab1 : FVec Ideal S512x128 .f32 :=
  shapeCast S512x128 (View.readAt (Elt Ideal) M.view
    (Rect.unit (s := S1x512x128) ![0, 0, 0] S1x512x128.size inb_S1x512x128_S1x512x128_0_0_0).toLoadRect (hM.unread x))
    shapeCasts_S1x512x128_S512x128

/-- A slab, its rows by phases of 4. -/
def slab4 : FVec Ideal S512x128 .f32 := stack 128 4 (fun p => slabCut M hM x 128 4 p (off4 p)) (stacks4 _)

/-- A slab, its rows by phases of 16. -/
def slab16 : FVec Ideal S512x128 .f32 := stack 32 16 (fun p => slabCut M hM x 32 16 p (off16 p)) (stacks16 _)

/-- A slab, the rows of each block of 128 by phases of 16. -/
def slab64 : FVec Ideal S512x128 .f32 :=
  stack 8 64 (fun p => slabCut M hM x 8 16 (128 * ((p : ℕ) / 16) + (p : ℕ) % 16) (off64 p)) (stacks64 _)

/-- A table, its rows in the order of the sequence. -/
def tab1 : FVec Ideal S512x128 .f32 :=
  shapeCast S512x128 (View.readAt (Elt Ideal) T.view
    (Rect.unit (s := S512x128) ![0, 0] S512x128.size inb_S512x128_S512x128_0_0).toLoadRect (hT.unread y))
    shapeCasts_S512x128_S512x128

/-- A table, its rows by phases of 4. -/
def tab4 : FVec Ideal S512x128 .f32 := stack 128 4 (fun p => tabCut T hT y 128 4 p (off4 p)) (stacks4 _)

/-- A table, its rows by phases of 16. -/
def tab16 : FVec Ideal S512x128 .f32 := stack 32 16 (fun p => tabCut T hT y 32 16 p (off16 p)) (stacks16 _)

/-- A table, the rows of each block of 128 by phases of 16. -/
def tab64 : FVec Ideal S512x128 .f32 :=
  stack 8 64 (fun p => tabCut T hT y 8 16 (128 * ((p : ℕ) / 16) + (p : ℕ) % 16) (off64 p)) (stacks64 _)

/-- The row of a tile that row `r` of it by phases of 4 holds. -/
def row4 (r : Fin 512) : Fin 512 := ⟨4 * (r % 128) + r / 128, by omega⟩

/-- The row of a tile that row `r` of it by phases of 16 holds. -/
def row16 (r : Fin 512) : Fin 512 := ⟨16 * (r % 32) + r / 32, by omega⟩

/-- The row of a tile that row `r` of it, each block of 128 by phases of 16, holds. -/
def row64 (r : Fin 512) : Fin 512 := ⟨128 * (r / 128) + 16 * (r % 8) + r / 8 % 16, by omega⟩

variable (r : Fin 512) (l : Fin 128)

theorem slab1_apply : slab1 M hM x (ix2 r l) = x (ix3 0 r l) := by
  unfold slab1
  refine (shapeCast_dropUnit_apply (![512, 128]) _ _ _).trans ((Memref.IsWhole.readAt_unread hM x
    (Rect.unit (s := S1x512x128) ![0, 0, 0] S1x512x128.size inb_S1x512x128_S1x512x128_0_0_0).toLoadRect _).trans (congrArg x ?_))
  funext a
  apply Fin.ext
  fin_cases a
  · rfl
  · exact (Nat.zero_add _).trans (Nat.one_mul _)
  · exact (Nat.zero_add _).trans (Nat.one_mul _)

theorem slab4_apply : slab4 M hM x (ix2 r l) = x (ix3 0 (row4 r) l) :=
  (stack_apply 128 4 _ _ r l ⟨r / 128, by omega⟩ ⟨r % 128, by omega⟩ rfl rfl).trans
    (slabCut_apply M hM x 128 4 _ _ _ l (row4 r) (by simp only [row4]; omega))

theorem slab16_apply : slab16 M hM x (ix2 r l) = x (ix3 0 (row16 r) l) :=
  (stack_apply 32 16 _ _ r l ⟨r / 32, by omega⟩ ⟨r % 32, by omega⟩ rfl rfl).trans
    (slabCut_apply M hM x 32 16 _ _ _ l (row16 r) (by simp only [row16]; omega))

theorem slab64_apply : slab64 M hM x (ix2 r l) = x (ix3 0 (row64 r) l) :=
  (stack_apply 8 64 _ _ r l ⟨r / 8, by omega⟩ ⟨r % 8, by omega⟩ rfl rfl).trans
    (slabCut_apply M hM x 8 16 _ _ _ l (row64 r) (by simp only [row64]; omega))

theorem tab1_apply : tab1 T hT y (ix2 r l) = y (ix2 r l) := by
  unfold tab1
  refine (congrFun (shapeCast_self (s := S512x128) _ shapeCasts_S512x128_S512x128) _).trans ?_
  refine (Memref.IsWhole.readAt_unread hT y
    (Rect.unit (s := S512x128) ![0, 0] S512x128.size inb_S512x128_S512x128_0_0).toLoadRect _).trans (congrArg y ?_)
  funext a
  apply Fin.ext
  fin_cases a
  · exact (Nat.zero_add _).trans (Nat.one_mul _)
  · exact (Nat.zero_add _).trans (Nat.one_mul _)

theorem tab4_apply : tab4 T hT y (ix2 r l) = y (ix2 (row4 r) l) :=
  (stack_apply 128 4 _ _ r l ⟨r / 128, by omega⟩ ⟨r % 128, by omega⟩ rfl rfl).trans
    (tabCut_apply T hT y 128 4 _ _ _ l (row4 r) (by simp only [row4]; omega))

theorem tab16_apply : tab16 T hT y (ix2 r l) = y (ix2 (row16 r) l) :=
  (stack_apply 32 16 _ _ r l ⟨r / 32, by omega⟩ ⟨r % 32, by omega⟩ rfl rfl).trans
    (tabCut_apply T hT y 32 16 _ _ _ l (row16 r) (by simp only [row16]; omega))

theorem tab64_apply : tab64 T hT y (ix2 r l) = y (ix2 (row64 r) l) :=
  (stack_apply 8 64 _ _ r l ⟨r / 8, by omega⟩ ⟨r % 8, by omega⟩ rfl rfl).trans
    (tabCut_apply T hT y 8 16 _ _ _ l (row64 r) (by simp only [row64]; omega))

/-! ## Eight slabs side by side -/

/-- Eight slabs side by side, rounded. -/
def join (f : Fin 8 → FVec Ideal S512x128 .f32) : FVec Ideal S512x1024 .bf16 :=
  concatenate S512x1024 1 (List.ofFn fun j : Fin 8 => (⟨S512x128, truncf .bf16 (f j) bitsLt_bf16_f32⟩ : (s : Shape) × (s.Idx → Ideal .bf16)))
    concatenates_S512x128_S512x128_S512x128_S512x128_S512x128_S512x128_S512x128_S512x128_S512x1024_d1

theorem join_apply (f : Fin 8 → FVec Ideal S512x128 .f32) (k : Fin 1024) :
    join f (ix2 r k) = f ⟨k / 128, by omega⟩ (ix2 r ⟨k % 128, by omega⟩) := by
  unfold join
  refine (concatenate_ofFn_apply (t := S512x1024) 1 (fun j : Fin 8 => truncf .bf16 (f j) bitsLt_bf16_f32) _ rfl 128 rfl (ix2 r k)
    ⟨k / 128, by omega⟩ rfl (ix2 r ⟨k % 128, by omega⟩) rfl ?_).trans ?_
  · intro b hb
    fin_cases b
    · rfl
    · exact absurd rfl hb
  · pointwise

end Proj.Cuts
-- ==== Proof.Proj.Pieces.lean ====
module

public import proofs.«01_k».proof.Proof.Gen.Kernel3Ideal.Value
public import proofs.«01_k».proof.Proof.Proj.Cuts

/-! What the body stores, as lists of pieces in closed form. -/

set_option maxRecDepth 16384

@[expose] public noncomputable section

open Idealize.ShloMosaic Idealize.ShloMosaic.TcCoe Idealize.SL.Sem
open Idealize.ShloMosaic.Pipeline (Dat)
open Cert.Kernel3Ideal Cert.Kernel3Ideal.Gen
open Proj.Cuts

namespace Proj.Pieces

/-- The product of the rows of a tile with 512 columns of the weight. -/
def prod (lhs : FVec Ideal S512x1024 .bf16) (w : FVec Ideal S1024x512 .bf16) : FVec Ideal S512x512 .f32 :=
  matmul dot_S512x1024_S1024x512_S512x512_1_0_0_1_n_n none lhs w (constant S512x512 .f32 0x00000000#32)

theorem slices (c : Fin 4) : S512x512.Slices ![0, 128 * (c : ℕ)] S512x128 := by
  revert c; decide

/-- Lane block `c` of a product. -/
def lanes (c : Fin 4) (v : FVec Ideal S512x512 .f32) : FVec Ideal S512x128 .f32 :=
  extractStridedSlice S512x128 ![0, 128 * (c : ℕ)] v (slices c)

/-- A mask of the lanes at every row. -/
def rows (v : IVec S1x128 1) : IVec S512x128 1 :=
  broadcastTo S512x128 (shapeCast S1x128 v shapeCasts_S1x128_S1x128) broadcasts_S1x128_S512x128

/-- A lane block turned by the tables. -/
def turn (cos sin t : FVec Ideal S512x128 .f32) : FVec Ideal S512x128 .f32 :=
  addf (mulf t cos)
    (mulf (select (rows k0_pay2) (dynamicRotate 1 96#32 none t rotates_S512x128_d1)
      (dynamicRotate 1 32#32 none t rotates_S512x128_d1)) sin)

/-- A lane block times the scale of the queries. -/
def scale (t : FVec Ideal S512x128 .f32) : FVec Ideal S512x128 .f32 :=
  mulf t (broadcast S512x128 (Scalar.ofBits .f32 0x3E38AA3B#32))

/-- The first head of a lane block, or the second. -/
def headOf (b : Bool) (t : FVec Ideal S512x128 .f32) : FVec Ideal S512x128 .bf16 :=
  truncf .bf16 (match b with
    | true => select (rows k0_pay3) t (broadcast S512x128 (Scalar.ofBits .f32 0x00000000#32))
    | false => select (rows k0_pay3) (broadcast S512x128 (Scalar.ofBits .f32 0x00000000#32)) t) bitsLt_bf16_f32

/-- The columns of the lane blocks the body stores, the last first: the lane block of the queries, keys and values, the head. -/
def order : List (Fin 4 × Fin 5) :=
  [(3, 4), (3, 3), (2, 4), (2, 3), (1, 4), (1, 3), (0, 4), (0, 3), (3, 2), (2, 2), (1, 2), (0, 2),
   (3, 1), (3, 0), (2, 1), (2, 0), (1, 1), (1, 0), (0, 1), (0, 0)]

/-- The value stored at lane block `c` of the section `s` of a group, from the products of the queries, the keys and the values. -/
def val (pq pk pv : FVec Ideal S512x512 .f32) (cosq sinq cos sin : FVec Ideal S512x128 .f32)
    (c : Fin 4) : Fin 5 → FVec Ideal S512x128 .bf16
  | 0 => headOf true (scale (turn cosq sinq (lanes c pq)))
  | 1 => headOf false (scale (turn cosq sinq (lanes c pq)))
  | 2 => truncf .bf16 (turn cos sin (lanes c pk)) bitsLt_bf16_f32
  | 3 => headOf true (lanes c pv)
  | 4 => headOf false (lanes c pv)

theorem inb1 (c : Fin 4) (s : Fin 5) : ∀ a, (![0, 0, 512 * (s : ℕ) + 128 * (c : ℕ)] : Fin 3 → ℕ) a + S1x512x128.size a
    ≤ S1x512x2560.size a := by
  revert c s; decide

/-- The pieces of the first group. -/
def list1 (V : Fin 4 → Fin 5 → FVec Ideal S512x128 .bf16) : List (View.Piece (Elt Ideal) S1x512x2560 .bf16) :=
  (order.map fun p => ⟨Rect.unit ![0, 0, 512 * (p.2 : ℕ) + 128 * (p.1 : ℕ)] S1x512x128.size (inb1 p.1 p.2),
    shapeCast S1x512x128 (V p.1 p.2) shapeCasts_S512x128_S1x512x128⟩)

theorem inb4 (r : Fin 4) (c : Fin 4) (s : Fin 5) :
    ∀ a, (![0, (r : ℕ), 0, 512 * (s : ℕ) + 128 * (c : ℕ)] : Fin 4 → ℕ) a + S1x1x128x128.size a
      ≤ S1x4x128x2560.size a := by
  revert r c s; decide

theorem cut4 (r : Fin 4) : S512x128.Slices ![128 * (r : ℕ), 0] S128x128 := by
  revert r; decide

/-- The piece of phase `r` at lane block `c` of the section `s` of the second group. -/
def piece4 (V : Fin 4 → Fin 5 → FVec Ideal S512x128 .bf16) (c : Fin 4) (s : Fin 5) (r : Fin 4) :
    View.Piece (Elt Ideal) S1x4x128x2560 .bf16 :=
  ⟨Rect.unit ![0, (r : ℕ), 0, 512 * (s : ℕ) + 128 * (c : ℕ)] S1x1x128x128.size (inb4 r c s),
    shapeCast S1x1x128x128 (extractStridedSlice S128x128 ![128 * (r : ℕ), 0] (V c s) (cut4 r))
      shapeCasts_S128x128_S1x1x128x128⟩

/-- The pieces of the second group. -/
def list4 (V : Fin 4 → Fin 5 → FVec Ideal S512x128 .bf16) : List (View.Piece (Elt Ideal) S1x4x128x2560 .bf16) :=
  order.flatMap fun p => ([3, 2, 1, 0] : List (Fin 4)).map (piece4 V p.1 p.2)

theorem inb16 (r : Fin 16) (c : Fin 4) (s : Fin 5) :
    ∀ a, (![0, (r : ℕ), 0, 512 * (s : ℕ) + 128 * (c : ℕ)] : Fin 4 → ℕ) a + S1x1x32x128.size a
      ≤ S1x16x32x2560.size a := by
  revert r c s; decide

theorem cut16 (r : Fin 16) : S512x128.Slices ![32 * (r : ℕ), 0] S32x128 := by
  revert r; decide

/-- The piece of phase `r` at lane block `c` of the section `s` of the third group. -/
def piece16 (V : Fin 4 → Fin 5 → FVec Ideal S512x128 .bf16) (c : Fin 4) (s : Fin 5) (r : Fin 16) :
    View.Piece (Elt Ideal) S1x16x32x2560 .bf16 :=
  ⟨Rect.unit ![0, (r : ℕ), 0, 512 * (s : ℕ) + 128 * (c : ℕ)] S1x1x32x128.size (inb16 r c s),
    shapeCast S1x1x32x128 (extractStridedSlice S32x128 ![32 * (r : ℕ), 0] (V c s) (cut16 r))
      shapeCasts_S32x128_S1x1x32x128⟩

/-- The pieces of the third group. -/
def list16 (V : Fin 4 → Fin 5 → FVec Ideal S512x128 .bf16) : List (View.Piece (Elt Ideal) S1x16x32x2560 .bf16) :=
  order.flatMap fun p => ([15, 14, 13, 12, 11, 10, 9, 8, 7, 6, 5, 4, 3, 2, 1, 0] : List (Fin 16)).map (piece16 V p.1 p.2)

variable (m : (ℓ : Loc nD τ sig) → Buf (Elt Ideal) ℓ) (c : Dev nD) (t : Fin cfg0.N)

/-- The run of the body at a grid point. -/
abbrev run := kernelRun0_A (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (iblk m c 0 t) (iblk m c 1 t) (iblk m c 2 t) (iblk m c 3 t) (iblk m c 4 t) (iblk m c 5 t) (iblk m c 6 t) (iblk m c 7 t) (iblk m c 8 t) (iblk m c 9 t) (X0_10 m c t)

/-- The eight slabs of a tile, each by `f`. -/
def slabs (f : (M : Memref sig .tc .vmem S1x512x128 .f32) → M.IsWhole → Vec Ideal S1x512x128 .f32 → FVec Ideal S512x128 .f32) :
    Fin 8 → FVec Ideal S512x128 .f32
  | 0 => f (ms0_0 t) (hs0_0 t) (iblk m c 0 t)
  | 1 => f (ms0_1 t) (hs0_1 t) (iblk m c 1 t)
  | 2 => f (ms0_2 t) (hs0_2 t) (iblk m c 2 t)
  | 3 => f (ms0_3 t) (hs0_3 t) (iblk m c 3 t)
  | 4 => f (ms0_4 t) (hs0_4 t) (iblk m c 4 t)
  | 5 => f (ms0_5 t) (hs0_5 t) (iblk m c 5 t)
  | 6 => f (ms0_6 t) (hs0_6 t) (iblk m c 6 t)
  | 7 => f (ms0_7 t) (hs0_7 t) (iblk m c 7 t)

theorem inbw (o : ℕ) (h : o + 512 ≤ 5120) : ∀ a, (![0, o] : Fin 2 → ℕ) a + S1024x512.size a ≤ S1024x5120.size a := by
  intro a
  fin_cases a
  · exact le_refl 1024
  · exact h

/-- 512 columns of the weight, from column `o`. -/
def cols (o : ℕ) (h : o + 512 ≤ 5120) : FVec Ideal S1024x512 .bf16 :=
  shapeCast S1024x512 (View.readAt (Elt Ideal) (ms0_10 t).view (Rect.unit (s := S1024x5120) ![0, o] S1024x512.size (inbw o h)).toLoadRect
    ((hs0_10 t).unread (X0_10 m c t))) shapeCasts_S1024x512_S1024x512

theorem pieces1 : ∃ pq pk pv cosq sinq cos sin,
    (run m c t).1 = list1 (val pq pk pv cosq sinq cos sin)
    ∧ pq = prod (join (slabs m c t slab64)) (cols m c t 0 (by decide))
    ∧ pk = prod (join (slabs m c t slab1)) (cols m c t 1536 (by decide))
    ∧ pv = prod (join (slabs m c t slab1)) (cols m c t 3072 (by decide))
    ∧ cosq = tab64 (ms0_8 t) (hs0_8 t) (iblk m c 8 t) ∧ sinq = tab64 (ms0_9 t) (hs0_9 t) (iblk m c 9 t)
    ∧ cos = tab1 (ms0_8 t) (hs0_8 t) (iblk m c 8 t) ∧ sin = tab1 (ms0_9 t) (hs0_9 t) (iblk m c 9 t) := by
  refine ⟨_, _, _, _, _, _, _, rfl, ?_, ?_, ?_, ?_, ?_, ?_, ?_⟩
  · rfl
  · rfl
  · rfl
  · rfl
  · rfl
  · rfl
  · rfl

theorem pieces4 : ∃ pq pk pv cosq sinq cos sin,
    (run m c t).2.1 = list4 (val pq pk pv cosq sinq cos sin)
    ∧ pq = prod (join (slabs m c t slab4)) (cols m c t 512 (by decide))
    ∧ pk = prod (join (slabs m c t slab4)) (cols m c t 2048 (by decide))
    ∧ pv = prod (join (slabs m c t slab4)) (cols m c t 3584 (by decide))
    ∧ cosq = tab4 (ms0_8 t) (hs0_8 t) (iblk m c 8 t) ∧ sinq = tab4 (ms0_9 t) (hs0_9 t) (iblk m c 9 t)
    ∧ cos = tab4 (ms0_8 t) (hs0_8 t) (iblk m c 8 t) ∧ sin = tab4 (ms0_9 t) (hs0_9 t) (iblk m c 9 t) := by
  refine ⟨_, _, _, _, _, _, _, rfl, ?_, ?_, ?_, ?_, ?_, ?_, ?_⟩
  all_goals rfl

theorem pieces16 : ∃ pq pk pv cosq sinq cos sin,
    (run m c t).2.2.1 = list16 (val pq pk pv cosq sinq cos sin)
    ∧ pq = prod (join (slabs m c t slab16)) (cols m c t 1024 (by decide))
    ∧ pk = prod (join (slabs m c t slab16)) (cols m c t 2560 (by decide))
    ∧ pv = prod (join (slabs m c t slab16)) (cols m c t 4096 (by decide))
    ∧ cosq = tab16 (ms0_8 t) (hs0_8 t) (iblk m c 8 t) ∧ sinq = tab16 (ms0_9 t) (hs0_9 t) (iblk m c 9 t)
    ∧ cos = tab16 (ms0_8 t) (hs0_8 t) (iblk m c 8 t) ∧ sin = tab16 (ms0_9 t) (hs0_9 t) (iblk m c 9 t) := by
  refine ⟨_, _, _, _, _, _, _, rfl, ?_, ?_, ?_, ?_, ?_, ?_, ?_⟩
  all_goals rfl

theorem inbu : ∀ a, (![0, 0, 0] : Fin 3 → ℕ) a + S1x512x512.size a ≤ S1x512x512.size a := by decide

theorem piecesu : ∃ u,
    ((run m c t).2.2.2 : List (View.Piece (Elt Ideal) S1x512x512 .f32))
      = [⟨Rect.unit (s := S1x512x512) ![0, 0, 0] S1x512x512.size inbu, shapeCast S1x512x512 u shapeCasts_S512x512_S1x512x512⟩]
    ∧ u = prod (join (slabs m c t slab1)) (cols m c t 4608 (by decide)) := by
  refine ⟨_, rfl, ?_⟩
  rfl

end Proj.Pieces
-- ==== Proof.Proj.Rows.lean ====
module

public import Idealize.ShloMosaic.Lib.Pointwise
public import Idealize.ShloMosaic.Lib.ValueIdx

/-! The projection of one token: what both programs store for it, as functions of its row. -/

@[expose] public noncomputable section

open Idealize.ShloMosaic

namespace Proj

/-- Column `n` of a row times the weight. -/
def proj (x : Fin 1024 → EReal) (w : Fin 1024 → Fin 5120 → EReal) (n : Fin 5120) : EReal := ∑ k, x k * w k n

/-- The lane a lane is turned against: the other half of its head. -/
def partner (l : Fin 128) : Fin 128 := ⟨if (l : ℕ) % 64 < 32 then (l : ℕ) + 32 else (l : ℕ) - 32, by
  have := l.isLt
  split <;> omega⟩

/-- A lane block turned by the angles of its row. -/
def turned (p cos sin : Fin 128 → EReal) (l : Fin 128) : EReal := p l * cos l + p (partner l) * sin l

/-- What is stored for a lane block of each section: the queries of the first head and of the second, turned and
    scaled, the keys, turned, and the values of the first head and of the second. -/
def entry (p cos sin : Fin 128 → EReal) (s : Fin 5) (l : Fin 128) : EReal :=
  match s with
  | 0 => if (l : ℕ) < 64 then turned p cos sin l * Ideal.ofBits .f32 0x3E38AA3B#32 else 0
  | 1 => if (l : ℕ) < 64 then 0 else turned p cos sin l * Ideal.ofBits .f32 0x3E38AA3B#32
  | 2 => turned p cos sin l
  | 3 => if (l : ℕ) < 64 then p l else 0
  | 4 => if (l : ℕ) < 64 then 0 else p l

/-- The first column of a section of the weight: the queries, the keys, the values. -/
def sect (s : Fin 5) : ℕ := match s with
  | 0 => 0
  | 1 => 0
  | 2 => 1536
  | 3 => 3072
  | 4 => 3072

end Proj
-- ==== Proof.Proj.Entries.lean ====
module

public import proofs.«01_k».proof.Proof.Proj.Pieces
public import proofs.«01_k».proof.Proof.Proj.Rows

/-! The values the body stores, read at a row and a lane. -/

set_option maxRecDepth 16384

@[expose] public noncomputable section

open Idealize.ShloMosaic Idealize.ShloMosaic.TcCoe Idealize.SL.Sem
open Cert.Kernel3Ideal Cert.Kernel3Ideal.Gen
open Proj.Cuts Proj.Pieces

namespace Proj.Entries

theorem half : ∀ l : Fin 128, k0_pay2 (ix2 0 l) = if (l : ℕ) % 64 < 32 then 1#1 else 0#1 := by
  decide +kernel

theorem head : ∀ l : Fin 128, k0_pay3 (ix2 0 l) = if (l : ℕ) < 64 then 1#1 else 0#1 := by
  decide +kernel

theorem lanes_apply (c : Fin 4) (p : FVec Ideal S512x512 .f32) (r : Fin 512) (l : Fin 128) :
    lanes c p (ix2 r l) = p (ix2 r ⟨128 * c + l, by omega⟩) := by
  pointwise [lanes]

theorem rows_apply (v : IVec S1x128 1) (r : Fin 512) (l : Fin 128) : rows v (ix2 r l) = v (ix2 0 l) := by
  pointwise [rows]

theorem turn_apply (cos sin t : FVec Ideal S512x128 .f32) (r : Fin 512) (l : Fin 128) :
    turn cos sin t (ix2 r l)
      = turned (fun l => t (ix2 r l)) (fun l => cos (ix2 r l)) (fun l => sin (ix2 r l)) l := by
  pointwise [turn, turned]
  rw [rows_apply, half]
  have e : Scalar.select (if (l : ℕ) % 64 < 32 then 1#1 else 0#1) (t (ix2 r ⟨((l : ℕ) + 128 - 96) % 128, by omega⟩))
      (t (ix2 r ⟨((l : ℕ) + 128 - 32) % 128, by omega⟩)) = t (ix2 r (partner l)) := by
    by_cases h : (l : ℕ) % 64 < 32
    · rw [if_pos h]
      refine congrArg t (congrArg (ix2 r) (Fin.ext ?_))
      simp only [partner, if_pos h]
      omega
    · rw [if_neg h]
      refine congrArg t (congrArg (ix2 r) (Fin.ext ?_))
      simp only [partner, if_neg h]
      omega
  rw [e]

theorem prod_apply (lhs : FVec Ideal S512x1024 .bf16) (w : FVec Ideal S1024x512 .bf16) (r : Fin 512) (n : Fin 512) :
    prod lhs w (ix2 r n) = ∑ k : Fin 1024, lhs (ix2 r k) * w (ix2 k n) := by
  pointwise [prod]

theorem headOf_true (t : FVec Ideal S512x128 .f32) (r : Fin 512) (l : Fin 128) :
    headOf true t (ix2 r l) = if (l : ℕ) < 64 then t (ix2 r l) else 0 := by
  pointwise [headOf]
  rw [rows_apply, head]
  by_cases h : (l : ℕ) < 64
  · rw [if_pos h, if_pos h]; rfl
  · rw [if_neg h, if_neg h]; rfl

theorem headOf_false (t : FVec Ideal S512x128 .f32) (r : Fin 512) (l : Fin 128) :
    headOf false t (ix2 r l) = if (l : ℕ) < 64 then 0 else t (ix2 r l) := by
  pointwise [headOf]
  rw [rows_apply, head]
  by_cases h : (l : ℕ) < 64
  · rw [if_pos h, if_pos h]; rfl
  · rw [if_neg h, if_neg h]; rfl

theorem scale_apply (t : FVec Ideal S512x128 .f32) (r : Fin 512) (l : Fin 128) :
    scale t (ix2 r l) = t (ix2 r l) * Ideal.ofBits .f32 0x3E38AA3B#32 := by
  pointwise [scale]

/-- The value stored at lane block `c` of a section, at row `r` and lane `l`: the entry of the rows there. -/
theorem val_apply (pq pk pv : FVec Ideal S512x512 .f32) (cosq sinq cos sin : FVec Ideal S512x128 .f32)
    (c : Fin 4) (s : Fin 5) (r : Fin 512) (l : Fin 128) (P : Fin 128 → EReal) (C S : Fin 128 → EReal)
    (hq : (s : ℕ) < 2 → ∀ l : Fin 128, pq (ix2 r ⟨128 * c + l, by omega⟩) = P l)
    (hk : (s : ℕ) = 2 → ∀ l : Fin 128, pk (ix2 r ⟨128 * c + l, by omega⟩) = P l)
    (hv : 2 < (s : ℕ) → ∀ l : Fin 128, pv (ix2 r ⟨128 * c + l, by omega⟩) = P l)
    (hcq : (s : ℕ) < 2 → ∀ l, cosq (ix2 r l) = C l) (hsq : (s : ℕ) < 2 → ∀ l, sinq (ix2 r l) = S l)
    (hc : 2 ≤ (s : ℕ) → ∀ l, cos (ix2 r l) = C l) (hs : 2 ≤ (s : ℕ) → ∀ l, sin (ix2 r l) = S l) :
    val pq pk pv cosq sinq cos sin c s (ix2 r l) = entry P C S s l := by
  have tq : (s : ℕ) < 2 → turn cosq sinq (lanes c pq) (ix2 r l) = turned P C S l := fun h => by
    rw [turn_apply]
    simp only [lanes_apply, hq h, hcq h, hsq h]
  match s with
  | 0 => exact (headOf_true _ r l).trans (by rw [scale_apply, tq (by decide)]; rfl)
  | 1 => exact (headOf_false _ r l).trans (by rw [scale_apply, tq (by decide)]; rfl)
  | 2 =>
    refine Eq.trans (b := turn cos sin (lanes c pk) (ix2 r l)) (by pointwise [val]) ?_
    rw [turn_apply]
    simp only [lanes_apply, hk rfl, hc (le_refl 2), hs (le_refl 2)]
    rfl
  | 3 => exact (headOf_true _ r l).trans (by rw [lanes_apply, hv (by decide)]; rfl)
  | 4 => exact (headOf_false _ r l).trans (by rw [lanes_apply, hv (by decide)]; rfl)

end Proj.Entries
-- ==== Proof.Proj.Angles.lean ====
module

public import proofs.«01_k».proof.Proof.Proj.Rows

/-! The angles of the rotation, and what is stored for a token. -/

@[expose] public noncomputable section

open Idealize.ShloMosaic

namespace Proj

/-- The angle of the token at `s` for the frequency `j`. -/
def theta (s : Fin 2048) (j : Fin 32) : EReal :=
  FloatOps.sitofp (F := Ideal) FTy.f32 (BitVec.ofNat 32 (s : ℕ))
    * Ideal.pow (Ideal.ofBits FTy.f32 1176256512#32)
      (Ideal.div (-FloatOps.sitofp (F := Ideal) FTy.f32 (BitVec.ofNat 32 (j : ℕ))) (Ideal.ofBits FTy.f32 1107296256#32))

/-- The frequency of a lane. -/
def freq (l : Fin 128) : Fin 32 := ⟨(l : ℕ) % 32, Nat.mod_lt _ (by decide)⟩

/-- The cosines of the token at `s`, lane by lane. -/
def cosRow (s : Fin 2048) (l : Fin 128) : EReal := Ideal.cos (theta s (freq l))

/-- The sines of the token at `s`, lane by lane, negated on the first half of each head. -/
def sinRow (s : Fin 2048) (l : Fin 128) : EReal :=
  if (l : ℕ) % 64 < 32 then -Ideal.sin (theta s (freq l)) else Ideal.sin (theta s (freq l))

theorem sect_le (s : Fin 5) : sect s ≤ 3072 := by revert s; decide

/-- The column of the weight for a lane of a lane block of a section of a group. -/
def column (g : Fin 3) (s : Fin 5) (c : Fin 4) (l : Fin 128) : Fin 5120 :=
  ⟨sect s + 512 * (g : ℕ) + 128 * (c : ℕ) + (l : ℕ), by have := sect_le s; omega⟩

/-- What the group `g` stores for the token at `ρ` at a lane of a lane block of a section. -/
def stored (x : Fin 2048 → Fin 1024 → EReal) (w : Fin 1024 → Fin 5120 → EReal) (g : Fin 3) (ρ : Fin 2048) (s : Fin 5)
    (c : Fin 4) (l : Fin 128) : EReal :=
  entry (fun l => proj (x ρ) w (column g s c l)) (cosRow ρ) (sinRow ρ) s l

/-- The section, the lane block and the lane of a column that is stored. -/
def sec (n : Fin 2560) : Fin 5 := ⟨(n : ℕ) / 512, by omega⟩
def blk (n : Fin 2560) : Fin 4 := ⟨(n : ℕ) % 512 / 128, by omega⟩
def lane (n : Fin 2560) : Fin 128 := ⟨(n : ℕ) % 128, Nat.mod_lt _ (by decide)⟩

/-- The token whose query is stored at a row of the first group: 16 tokens apart within each 128. -/
def spread (r : Fin 2048) : Fin 2048 := ⟨128 * ((r : ℕ) / 128) + 16 * ((r : ℕ) % 8) + (r : ℕ) / 8 % 16, by omega⟩

/-- What is stored in a column of the first group's row. -/
def stored0 (x : Fin 2048 → Fin 1024 → EReal) (w : Fin 1024 → Fin 5120 → EReal) (r : Fin 2048) (n : Fin 2560) : EReal :=
  stored x w 0 (if (n : ℕ) < 1024 then spread r else r) (sec n) (blk n) (lane n)

end Proj
-- ==== Proof.Proj.Blocks.lean ====
module

public import proofs.«01_k».proof.Proof.Proj.Entries
public import proofs.«01_k».proof.Proof.Proj.Angles

/-! The blocks of a grid point, read at a row. -/

set_option maxRecDepth 16384

@[expose] public noncomputable section

open Idealize.ShloMosaic Idealize.ShloMosaic.TcCoe Idealize.SL.Sem
open Idealize.ShloMosaic.Pipeline (Dat)
open Proj.Cuts Proj.Pieces Proj.Entries
open Cert.Kernel3Ideal Cert.Kernel3Ideal.Gen

namespace Proj.Blocks

variable (m : (ℓ : Loc nD τ sig) → Buf (Elt Ideal) ℓ)

/-! ## What the host line leaves in the tables and the weight -/

/-- The angles, row by row. -/
def angle : FVec Ideal S2048x32 .f32 :=
  mulf (F := Ideal) (broadcastInDim S2048x32 ![0, 1] bcast_S2048x1_S2048x32_0_1 (broadcastInDim S2048x1 ![0] bcast_S2048_S2048x1_0 (sitofp .f32 (iotaInDim S2048 32 0))))
    (broadcastInDim S2048x32 ![0, 1] bcast_S1x32_S2048x32_0_1 (broadcastInDim S1x32 ![1] bcast_S32_S1x32_1
      (Host.powf (broadcastInDim S32 ![] bcast_S_S32 (constant S_ .f32 0x461C4000#32))
        (Host.divf (Host.negf (sitofp .f32 (iotaInDim S32 32 0))) (broadcastInDim S32 ![] bcast_S_S32 (constant S_ .f32 0x42000000#32))))))

theorem angle_apply (s : Fin 2048) (j : Fin 32) : angle (ix2 s j) = theta s j := by
  pointwise [angle]
  rfl

theorem entry14 (c : Dev nD) : V m c main_v14 = (concatenate S2048x128 1 [⟨S2048x32, Host.cos (F := Ideal) angle⟩, ⟨S2048x32, Host.cos (F := Ideal) angle⟩, ⟨S2048x32, Host.cos (F := Ideal) angle⟩, ⟨S2048x32, Host.cos (F := Ideal) angle⟩]
    concatenates_S2048x32_S2048x32_S2048x32_S2048x32_S2048x128_d1 : (⟨S2048x128, .f32⟩ : BufTy).Contents (Elt Ideal)) := by
  rfl

theorem entry17 (c : Dev nD) : V m c main_v17 = (concatenate S2048x128 1 [⟨S2048x32, Host.negf (F := Ideal) (Host.sin (F := Ideal) angle)⟩, ⟨S2048x32, Host.sin (F := Ideal) angle⟩, ⟨S2048x32, Host.negf (F := Ideal) (Host.sin (F := Ideal) angle)⟩, ⟨S2048x32, Host.sin (F := Ideal) angle⟩]
    concatenates_S2048x32_S2048x32_S2048x32_S2048x32_S2048x128_d1 : (⟨S2048x128, .f32⟩ : BufTy).Contents (Elt Ideal)) := by
  rfl

theorem entry18 (c : Dev nD) : V m c main_v18 = (truncf (F := Ideal) .bf16 (m ((c : Thread nD τ).loc main_arg1)) bitsLt_bf16_f32 : (⟨S1024x7168, .bf16⟩ : BufTy).Contents (Elt Ideal)) := by
  rfl

theorem cos_apply (c : Dev nD) (s : Fin 2048) (l : Fin 128) : V m c main_v14 (ix2 s l : S2048x128.Idx) = cosRow s l := by
  have e : ∀ (j : Fin 32), (j : ℕ) = l % 32 → Ideal.cos (angle (ix2 s j)) = cosRow s l := fun j h => by
    rw [angle_apply, show j = freq l from Fin.ext h]
    rfl
  rw [entry14]
  pointwise
  split
  · exact e _ (by dsimp only; omega)
  split
  · exact e _ (by dsimp only; omega)
  split
  · exact e _ (by dsimp only; omega)
  · exact e _ (by dsimp only; omega)

theorem sin_apply (c : Dev nD) (s : Fin 2048) (l : Fin 128) : V m c main_v17 (ix2 s l : S2048x128.Idx) = sinRow s l := by
  have e : ∀ (j : Fin 32), (j : ℕ) = l % 32 → (l : ℕ) % 64 < 32 → -Ideal.sin (angle (ix2 s j)) = sinRow s l := fun j h h' => by
    rw [angle_apply, show j = freq l from Fin.ext h, sinRow, if_pos h']
  have e' : ∀ (j : Fin 32), (j : ℕ) = l % 32 → ¬(l : ℕ) % 64 < 32 → Ideal.sin (angle (ix2 s j)) = sinRow s l := fun j h h' => by
    rw [angle_apply, show j = freq l from Fin.ext h, sinRow, if_neg h']
  rw [entry17]
  pointwise
  split
  · exact e _ (by dsimp only; omega) (by omega)
  split
  · exact e' _ (by dsimp only; omega) (by omega)
  split
  · exact e _ (by dsimp only; omega) (by omega)
  · exact e' _ (by dsimp only; omega) (by omega)

/-! ## The blocks -/

theorem idx : ∀ t : Fin cfg0.N, win0_0.index t = ![t.val / 4, t.val % 4, 0] ∧ win0_1.index t = ![t.val / 4, t.val % 4, 1] ∧ win0_2.index t = ![t.val / 4, t.val % 4, 2] ∧ win0_3.index t = ![t.val / 4, t.val % 4, 3] ∧ win0_4.index t = ![t.val / 4, t.val % 4, 4] ∧ win0_5.index t = ![t.val / 4, t.val % 4, 5] ∧ win0_6.index t = ![t.val / 4, t.val % 4, 6] ∧ win0_7.index t = ![t.val / 4, t.val % 4, 7] ∧ win0_8.index t = ![t.val % 4, 0] ∧ win0_9.index t = ![t.val % 4, 0] ∧ win0_10.index t = ![0, 0]
    ∧ win0_11.index t = ![t.val / 4, t.val % 4, 0] ∧ win0_12.index t = ![t.val / 4, 0, t.val % 4, 0]
    ∧ win0_13.index t = ![t.val / 4, 0, t.val % 4, 0] ∧ win0_14.index t = ![t.val / 4, t.val % 4, 0] :=
  (by decide +kernel : ∀ t : Fin grid0.N, _)

variable (c : Dev nD) (t : Fin cfg0.N)

theorem slab0 (r : Fin 512) (l : Fin 128) (b : Fin 8) (s : Fin 2048) (k : Fin 1024) (hb : (b : ℕ) = t / 4)
    (hs : (s : ℕ) = 512 * (t % 4) + r) (hk : (k : ℕ) = 128 * 0 + l) :
    iblk m c 0 t (ix3 0 r l : S1x512x128.Idx) = m ((c : Thread nD τ).loc main_arg0) (ix3 b s k) := by
  blk_ext [iblk, V_main_arg0, idx t]

theorem slab1 (r : Fin 512) (l : Fin 128) (b : Fin 8) (s : Fin 2048) (k : Fin 1024) (hb : (b : ℕ) = t / 4)
    (hs : (s : ℕ) = 512 * (t % 4) + r) (hk : (k : ℕ) = 128 * 1 + l) :
    iblk m c 1 t (ix3 0 r l : S1x512x128.Idx) = m ((c : Thread nD τ).loc main_arg0) (ix3 b s k) := by
  blk_ext [iblk, V_main_arg0, idx t]

theorem slab2 (r : Fin 512) (l : Fin 128) (b : Fin 8) (s : Fin 2048) (k : Fin 1024) (hb : (b : ℕ) = t / 4)
    (hs : (s : ℕ) = 512 * (t % 4) + r) (hk : (k : ℕ) = 128 * 2 + l) :
    iblk m c 2 t (ix3 0 r l : S1x512x128.Idx) = m ((c : Thread nD τ).loc main_arg0) (ix3 b s k) := by
  blk_ext [iblk, V_main_arg0, idx t]

theorem slab3 (r : Fin 512) (l : Fin 128) (b : Fin 8) (s : Fin 2048) (k : Fin 1024) (hb : (b : ℕ) = t / 4)
    (hs : (s : ℕ) = 512 * (t % 4) + r) (hk : (k : ℕ) = 128 * 3 + l) :
    iblk m c 3 t (ix3 0 r l : S1x512x128.Idx) = m ((c : Thread nD τ).loc main_arg0) (ix3 b s k) := by
  blk_ext [iblk, V_main_arg0, idx t]

theorem slab4 (r : Fin 512) (l : Fin 128) (b : Fin 8) (s : Fin 2048) (k : Fin 1024) (hb : (b : ℕ) = t / 4)
    (hs : (s : ℕ) = 512 * (t % 4) + r) (hk : (k : ℕ) = 128 * 4 + l) :
    iblk m c 4 t (ix3 0 r l : S1x512x128.Idx) = m ((c : Thread nD τ).loc main_arg0) (ix3 b s k) := by
  blk_ext [iblk, V_main_arg0, idx t]

theorem slab5 (r : Fin 512) (l : Fin 128) (b : Fin 8) (s : Fin 2048) (k : Fin 1024) (hb : (b : ℕ) = t / 4)
    (hs : (s : ℕ) = 512 * (t % 4) + r) (hk : (k : ℕ) = 128 * 5 + l) :
    iblk m c 5 t (ix3 0 r l : S1x512x128.Idx) = m ((c : Thread nD τ).loc main_arg0) (ix3 b s k) := by
  blk_ext [iblk, V_main_arg0, idx t]

theorem slab6 (r : Fin 512) (l : Fin 128) (b : Fin 8) (s : Fin 2048) (k : Fin 1024) (hb : (b : ℕ) = t / 4)
    (hs : (s : ℕ) = 512 * (t % 4) + r) (hk : (k : ℕ) = 128 * 6 + l) :
    iblk m c 6 t (ix3 0 r l : S1x512x128.Idx) = m ((c : Thread nD τ).loc main_arg0) (ix3 b s k) := by
  blk_ext [iblk, V_main_arg0, idx t]

theorem slab7 (r : Fin 512) (l : Fin 128) (b : Fin 8) (s : Fin 2048) (k : Fin 1024) (hb : (b : ℕ) = t / 4)
    (hs : (s : ℕ) = 512 * (t % 4) + r) (hk : (k : ℕ) = 128 * 7 + l) :
    iblk m c 7 t (ix3 0 r l : S1x512x128.Idx) = m ((c : Thread nD τ).loc main_arg0) (ix3 b s k) := by
  blk_ext [iblk, V_main_arg0, idx t]

theorem tabc (r : Fin 512) (l : Fin 128) (s : Fin 2048) (hs : (s : ℕ) = 512 * (t % 4) + r) :
    iblk m c 8 t (ix2 r l : S512x128.Idx) = cosRow s l := by
  refine Eq.trans (b := V m c main_v14 (ix2 s l : S2048x128.Idx)) ?_ (cos_apply m c s l)
  blk_ext [iblk, idx t]

theorem tabs (r : Fin 512) (l : Fin 128) (s : Fin 2048) (hs : (s : ℕ) = 512 * (t % 4) + r) :
    iblk m c 9 t (ix2 r l : S512x128.Idx) = sinRow s l := by
  refine Eq.trans (b := V m c main_v17 (ix2 s l : S2048x128.Idx)) ?_ (sin_apply m c s l)
  blk_ext [iblk, idx t]

/-- The tokens, a batch at a time, and the columns of the weight that are read. -/
abbrev X (b : Fin 8) : Fin 2048 → Fin 1024 → EReal := fun s k => m ((c : Thread nD τ).loc main_arg0) (ix3 b s k)
abbrev W : Fin 1024 → Fin 5120 → EReal := fun k n => m ((c : Thread nD τ).loc main_arg1) (ix2 k ⟨n, by omega⟩)

theorem weight (k : Fin 1024) (n : Fin 5120) :
    X0_10 m c t (ix2 k n : S1024x5120.Idx) = W m c k n := by
  unfold X0_10 Pipeline.Window.fill
  rw [dif_pos (moved0_10 t _)]
  refine Eq.trans (b := V m c main_v18 (ix2 k ⟨n, by omega⟩ : S1024x7168.Idx)) ?_ ?_
  · blk_ext [iblk, idx t]
  · rw [entry18]
    rfl

theorem cols_apply (o : ℕ) (h : o + 512 ≤ 5120) (k : Fin 1024) (n : Fin 512) :
    cols m c t o h (ix2 k n) = W m c k ⟨o + n, by omega⟩ := by
  unfold cols
  refine ((congrFun (shapeCast_self _ _) _).trans ((Memref.IsWhole.readAt_unread (hs0_10 t) (X0_10 m c t)
    (Rect.unit (s := S1024x5120) ![0, o] S1024x512.size (inbw o h)).toLoadRect _).trans
      (congrArg (X0_10 m c t) (?_ : _ = (ix2 k ⟨o + n, by omega⟩ : S1024x5120.Idx))))).trans (weight m c t k _)
  funext a
  apply Fin.ext
  fin_cases a
  · exact (Nat.zero_add _).trans (Nat.one_mul _)
  · exact congrArg (o + ·) (Nat.one_mul _)

section
variable (f : (M : Memref sig .tc .vmem S1x512x128 .f32) → M.IsWhole → Vec Ideal S1x512x128 .f32 → FVec Ideal S512x128 .f32)
  (σ : Fin 512 → Fin 512) (hf : ∀ M hM x r l, f M hM x (ix2 r l) = x (ix3 0 (σ r) l))
include hf

theorem slabs_apply (r : Fin 512) (b : Fin 8) (s : Fin 2048) (hb : (b : ℕ) = t / 4)
    (hs : (s : ℕ) = 512 * (t % 4) + σ r) : ∀ (j : Fin 8) (l : Fin 128) (k : Fin 1024), (k : ℕ) = 128 * j + l →
    slabs m c t f j (ix2 r l) = X m c b s k
  | 0, l, k, hk => (hf _ _ _ _ _).trans (slab0 m c t _ l b s k hb hs hk)
  | 1, l, k, hk => (hf _ _ _ _ _).trans (slab1 m c t _ l b s k hb hs hk)
  | 2, l, k, hk => (hf _ _ _ _ _).trans (slab2 m c t _ l b s k hb hs hk)
  | 3, l, k, hk => (hf _ _ _ _ _).trans (slab3 m c t _ l b s k hb hs hk)
  | 4, l, k, hk => (hf _ _ _ _ _).trans (slab4 m c t _ l b s k hb hs hk)
  | 5, l, k, hk => (hf _ _ _ _ _).trans (slab5 m c t _ l b s k hb hs hk)
  | 6, l, k, hk => (hf _ _ _ _ _).trans (slab6 m c t _ l b s k hb hs hk)
  | 7, l, k, hk => (hf _ _ _ _ _).trans (slab7 m c t _ l b s k hb hs hk)

/-- A product of the tile with 512 columns, at a row and a column. -/
theorem product (o : ℕ) (h : o + 512 ≤ 5120) (r n : Fin 512) (b : Fin 8) (s : Fin 2048) (hb : (b : ℕ) = t / 4)
    (hs : (s : ℕ) = 512 * (t % 4) + σ r) (n' : Fin 5120) (hn : (n' : ℕ) = o + n) :
    prod (join (slabs m c t f)) (cols m c t o h) (ix2 r n) = proj (X m c b s) (W m c) n' := by
  rw [prod_apply]
  unfold proj
  refine Finset.sum_congr rfl fun k _ => ?_
  rw [join_apply, slabs_apply m c t f σ hf r b s hb hs _ _ k (by dsimp only; omega), cols_apply]
  exact congrArg (fun n => X m c b s k * W m c k n) (Fin.ext hn.symm)
end

end Proj.Blocks
-- ==== Proof.Proj.Points.lean ====
module

public import proofs.«01_k».proof.Proof.Proj.Blocks

/-! What the body leaves in its outputs at a grid point. -/

set_option maxRecDepth 16384

@[expose] public noncomputable section

open Idealize.ShloMosaic Idealize.ShloMosaic.TcCoe Idealize.SL.Sem
open Idealize.ShloMosaic.Pipeline (Dat)
open Proj.Cuts Proj.Pieces Proj.Entries Proj.Blocks
open Cert.Kernel3Ideal Cert.Kernel3Ideal.Gen

namespace Proj.Points

variable (m : (ℓ : Loc nD τ sig) → Buf (Elt Ideal) ℓ) (c : Dev nD) (t : Fin cfg0.N)

theorem lt_points (t : Fin cfg0.N) : (t : ℕ) < 32 := t.isLt

/-- The batch of a grid point. -/
def batch : Fin 8 := ⟨(t : ℕ) / 4, by have := lt_points t; omega⟩

/-- The token at a row of a grid point's tile. -/
def token (r : Fin 512) : Fin 2048 := ⟨512 * ((t : ℕ) % 4) + r, by omega⟩

/-- What a group stores, from the ways its tile and its tables are cut. -/
theorem vals (g : Fin 3)
    (fq f : (M : Memref sig .tc .vmem S1x512x128 .f32) → M.IsWhole → Vec Ideal S1x512x128 .f32 → FVec Ideal S512x128 .f32)
    (dq d : (M : Memref sig .tc .vmem S512x128 .f32) → M.IsWhole → Vec Ideal S512x128 .f32 → FVec Ideal S512x128 .f32)
    (σq σ : Fin 512 → Fin 512)
    (hfq : ∀ M hM x r l, fq M hM x (ix2 r l) = x (ix3 0 (σq r) l)) (hf : ∀ M hM x r l, f M hM x (ix2 r l) = x (ix3 0 (σ r) l))
    (hdq : ∀ M hM x r l, dq M hM x (ix2 r l) = x (ix2 (σq r) l)) (hd : ∀ M hM x r l, d M hM x (ix2 r l) = x (ix2 (σ r) l))
    (oq ok ov : ℕ) (hoq : oq + 512 ≤ 5120) (hok : ok + 512 ≤ 5120) (hov : ov + 512 ≤ 5120)
    (eq : oq = 512 * g) (ek : ok = 1536 + 512 * g) (ev : ov = 3072 + 512 * g)
    (pq pk pv : FVec Ideal S512x512 .f32) (cosq sinq cos sin : FVec Ideal S512x128 .f32)
    (hq : pq = prod (join (slabs m c t fq)) (cols m c t oq hoq)) (hk : pk = prod (join (slabs m c t f)) (cols m c t ok hok))
    (hv : pv = prod (join (slabs m c t f)) (cols m c t ov hov))
    (hcq : cosq = dq (ms0_8 t) (hs0_8 t) (iblk m c 8 t)) (hsq : sinq = dq (ms0_9 t) (hs0_9 t) (iblk m c 9 t))
    (hc : cos = d (ms0_8 t) (hs0_8 t) (iblk m c 8 t)) (hs : sin = d (ms0_9 t) (hs0_9 t) (iblk m c 9 t))
    (k : Fin 4) (s : Fin 5) (r : Fin 512) (l : Fin 128) :
    val pq pk pv cosq sinq cos sin k s (ix2 r l)
      = stored (X m c (batch t)) (W m c) g (if (s : ℕ) < 2 then token t (σq r) else token t (σ r)) s k l := by
  subst hq hk hv hcq hsq hc hs eq ek ev
  refine val_apply _ _ _ _ _ _ _ k s r l _ _ _ ?_ ?_ ?_ ?_ ?_ ?_ ?_
  · intro h l
    rw [if_pos h]
    refine product m c t fq σq hfq _ hoq r _ (batch t) _ rfl rfl _ ?_
    show sect s + 512 * (g : ℕ) + 128 * (k : ℕ) + (l : ℕ) = 512 * (g : ℕ) + (128 * (k : ℕ) + (l : ℕ))
    have : sect s = 0 := by revert s; decide
    omega
  · intro h l
    rw [if_neg (by omega)]
    refine product m c t f σ hf _ hok r _ (batch t) _ rfl rfl _ ?_
    show sect s + 512 * (g : ℕ) + 128 * (k : ℕ) + (l : ℕ) = 1536 + 512 * (g : ℕ) + (128 * (k : ℕ) + (l : ℕ))
    have : sect s = 1536 := by revert s; decide
    omega
  · intro h l
    rw [if_neg (by omega)]
    refine product m c t f σ hf _ hov r _ (batch t) _ rfl rfl _ ?_
    show sect s + 512 * (g : ℕ) + 128 * (k : ℕ) + (l : ℕ) = 3072 + 512 * (g : ℕ) + (128 * (k : ℕ) + (l : ℕ))
    have : sect s = 3072 := by revert s; decide
    omega
  · intro h l
    rw [if_pos h]
    exact (hdq _ _ _ _ _).trans (tabc m c t _ l _ rfl)
  · intro h l
    rw [if_pos h]
    exact (hdq _ _ _ _ _).trans (tabs m c t _ l _ rfl)
  · intro h l
    rw [if_neg (by omega)]
    exact (hd _ _ _ _ _).trans (tabc m c t _ l _ rfl)
  · intro h l
    rw [if_neg (by omega)]
    exact (hd _ _ _ _ _).trans (tabs m c t _ l _ rfl)

theorem mem_order : ∀ (k : Fin 4) (s : Fin 5), (k, s) ∈ order := by decide

theorem sec_at (s : Fin 5) (k : Fin 4) (l : Fin 128) (n : Fin 2560) (h : (n : ℕ) = 512 * (s : ℕ) + 128 * (k : ℕ) + l) :
    sec n = s ∧ blk n = k ∧ lane n = l :=
  ⟨Fin.ext (by show (n : ℕ) / 512 = s; omega), Fin.ext (by show (n : ℕ) % 512 / 128 = k; omega), Fin.ext (by show (n : ℕ) % 128 = l; omega)⟩

/-- The row of a tile at a place of a phase. -/
def phase4 (p : Fin 4) (q : Fin 128) : Fin 512 := ⟨4 * (q : ℕ) + p, by omega⟩
def phase16 (p : Fin 16) (q : Fin 32) : Fin 512 := ⟨16 * (q : ℕ) + p, by omega⟩
/-- The columns of the input of the recurrence. -/
def last (n : Fin 512) : Fin 5120 := ⟨4608 + n, by omega⟩

/-- The first group's pieces leave what is stored in its block. -/
theorem read1 (V : Fin 4 → Fin 5 → FVec Ideal S512x128 .bf16) (x' : Fin 2048 → Fin 1024 → EReal) (w : Fin 1024 → Fin 5120 → EReal)
    (H : ∀ k s r l, V k s (ix2 r l) = stored x' w 0 (if (s : ℕ) < 2 then token t (row64 r) else token t r) s k l)
    (y : S1x512x2560.Idx) :
    VO0_11.read (Elt Ideal) (VO0_11.writes (Elt Ideal) VO0_11.junk (list1 V)) y = stored0 x' w (token t (y 1)) (y 2) := by
  refine View.read_writes_apply_of_pieces (v := VO0_11) VO0_11.junk
    (fun y : S1x512x2560.Idx => stored0 x' w (token t (y 1)) (y 2)) (list1 V) ?_ y ?_
  · intro p hp x
    obtain ⟨⟨k, s⟩, _, rfl⟩ := List.mem_map.mp hp
    have e1 : ∀ h, token t ((Rect.unit (s := S1x512x2560) ![0, 0, 512 * (s : ℕ) + 128 * (k : ℕ)] S1x512x128.size h).emb x 1) = token t (x 1) :=
      fun h => congrArg (token t) (Fin.ext ((Nat.zero_add _).trans (Nat.one_mul _)))
    have e2 : ∀ h, (((Rect.unit (s := S1x512x2560) ![0, 0, 512 * (s : ℕ) + 128 * (k : ℕ)] S1x512x128.size h).emb x 2 : Fin 2560) : ℕ)
        = 512 * (s : ℕ) + 128 * (k : ℕ) + ((x 2 : Fin 128) : ℕ) :=
      fun h => congrArg (512 * (s : ℕ) + 128 * (k : ℕ) + ·) (Nat.one_mul _)
    refine (shapeCast_apply _ _ _ (ix2 (x 1 : Fin 512) (x 2 : Fin 128)) ?_).trans ((H k s (x 1) (x 2)).trans ?_)
    · rewrite [Shape.rowMajor_val_two, Shape.rowMajor_val_three]
      have h0 : ((x 0 : Fin 1) : ℕ) < 1 := (x 0).isLt
      show ((x 1 : Fin 512) : ℕ) * 128 + ((x 2 : Fin 128) : ℕ) = (((x 0 : Fin 1) : ℕ) * 512 + ((x 1 : Fin 512) : ℕ)) * 128 + ((x 2 : Fin 128) : ℕ)
      omega
    · have h2 := e2 (inb1 k s)
      obtain ⟨a1, a2, a3⟩ := sec_at s k (x 2) _ h2
      show _ = stored0 _ _ (token t _) _
      unfold stored0
      rw [e1, a1, a2, a3, h2]
      refine congrArg (fun ρ => stored x' w 0 ρ s k (x 2)) ?_
      have h3 : ((x 2 : Fin 128) : ℕ) < 128 := (x 2).isLt
      by_cases h : (s : ℕ) < 2
      · rw [if_pos h, if_pos (by omega)]
        refine Fin.ext ?_
        show 512 * ((t : ℕ) % 4) + (128 * (((x 1 : Fin 512) : ℕ) / 128) + 16 * (((x 1 : Fin 512) : ℕ) % 8) + ((x 1 : Fin 512) : ℕ) / 8 % 16)
          = 128 * ((512 * ((t : ℕ) % 4) + ((x 1 : Fin 512) : ℕ)) / 128) + 16 * ((512 * ((t : ℕ) % 4) + ((x 1 : Fin 512) : ℕ)) % 8)
            + (512 * ((t : ℕ) % 4) + ((x 1 : Fin 512) : ℕ)) / 8 % 16
        omega
      · rw [if_neg h, if_neg (by omega)]
  · refine ⟨_, List.mem_map_of_mem (mem_order (blk (y 2)) (sec (y 2))), ?_⟩
    show y ∈ (Rect.unit (s := S1x512x2560) ![0, 0, 512 * (sec (y 2) : ℕ) + 128 * (blk (y 2) : ℕ)] S1x512x128.size
      (inb1 (blk (y 2)) (sec (y 2)))).set
    refine Rect.mem_set_unit.mpr fun a => ?_
    have h0 : ((y 0 : Fin 1) : ℕ) < 1 := (y 0).isLt
    have h1 : ((y 1 : Fin 512) : ℕ) < 512 := (y 1).isLt
    have h2 : ((y 2 : Fin 2560) : ℕ) < 2560 := (y 2).isLt
    match a with
    | ⟨0, _⟩ => exact ⟨Nat.zero_le _, (show ((y 0 : Fin 1) : ℕ) < 0 + 1 by omega)⟩
    | ⟨1, _⟩ => exact ⟨Nat.zero_le _, (show ((y 1 : Fin 512) : ℕ) < 0 + 512 by omega)⟩
    | ⟨2, _⟩ =>
      show 512 * (((y 2 : Fin 2560) : ℕ) / 512) + 128 * (((y 2 : Fin 2560) : ℕ) % 512 / 128) ≤ ((y 2 : Fin 2560) : ℕ)
        ∧ ((y 2 : Fin 2560) : ℕ) < 512 * (((y 2 : Fin 2560) : ℕ) / 512) + 128 * (((y 2 : Fin 2560) : ℕ) % 512 / 128) + 128
      omega

theorem flat4 (x : S1x1x128x128.Idx) :
    (S128x128.rowMajor (ix2 (x 2 : Fin 128) (x 3 : Fin 128)) : ℕ) = (S1x1x128x128.rowMajor x : ℕ) := by
  rewrite [Shape.rowMajor_val_two, Shape.rowMajor_val_four]
  have h0 : ((x 0 : Fin 1) : ℕ) < 1 := (x 0).isLt
  have h1 : ((x 1 : Fin 1) : ℕ) < 1 := (x 1).isLt
  show ((x 2 : Fin 128) : ℕ) * 128 + ((x 3 : Fin 128) : ℕ)
    = ((((x 0 : Fin 1) : ℕ) * 1 + ((x 1 : Fin 1) : ℕ)) * 128 + ((x 2 : Fin 128) : ℕ)) * 128 + ((x 3 : Fin 128) : ℕ)
  omega

theorem cut4_apply (v : FVec Ideal S512x128 .bf16) (r : Fin 4) (q : Fin 128) (l : Fin 128) :
    extractStridedSlice S128x128 ![128 * (r : ℕ), 0] v (cut4 r) (ix2 q l)
      = v (ix2 (⟨128 * (r : ℕ) + q, by omega⟩ : Fin 512) l) := by
  refine extractStridedSlice_apply _ _ _ _ _ fun a => ?_
  match a with
  | ⟨0, _⟩ => rfl
  | ⟨1, _⟩ => exact (Nat.zero_add _).symm

/-- The group's pieces by phases of 4 leave what is stored in its block. -/
theorem read4 (V : Fin 4 → Fin 5 → FVec Ideal S512x128 .bf16) (x' : Fin 2048 → Fin 1024 → EReal) (w : Fin 1024 → Fin 5120 → EReal)
    (H : ∀ k s r l, V k s (ix2 r l) = stored x' w 1 (token t (row4 r)) s k l) (y : S1x4x128x2560.Idx) :
    VO0_12.read (Elt Ideal) (VO0_12.writes (Elt Ideal) VO0_12.junk (list4 V)) y
      = stored x' w 1 (token t (phase4 (y 1) (y 2))) (sec (y 3)) (blk (y 3)) (lane (y 3)) := by
  refine View.read_writes_apply_of_pieces (v := VO0_12) VO0_12.junk
    (fun y : S1x4x128x2560.Idx => stored x' w 1 (token t (phase4 (y 1) (y 2))) (sec (y 3)) (blk (y 3)) (lane (y 3))) (list4 V) ?_ y ?_
  · intro p hp x
    obtain ⟨⟨k, s⟩, _, hp⟩ := List.mem_flatMap.mp hp
    obtain ⟨r, _, rfl⟩ := List.mem_map.mp hp
    have h0 : ((x 0 : Fin 1) : ℕ) < 1 := (x 0).isLt
    have h1 : ((x 1 : Fin 1) : ℕ) < 1 := (x 1).isLt
    have h2 : ((x 2 : Fin 128) : ℕ) < 128 := (x 2).isLt
    refine (shapeCast_apply _ _ _ (ix2 (x 2 : Fin 128) (x 3 : Fin 128)) ?_).trans
      ((cut4_apply (V k s) r (x 2) (x 3)).trans ((H k s _ (x 3)).trans ?_))
    · exact flat4 x
    · have e1 : (((piece4 V k s r).1.emb x 1 : Fin 4) : ℕ) = (r : ℕ) + 1 * ((x 1 : Fin 1) : ℕ) := rfl
      have e2 : (((piece4 V k s r).1.emb x 2 : Fin 128) : ℕ) = 0 + 1 * ((x 2 : Fin 128) : ℕ) := rfl
      have e3 : (((piece4 V k s r).1.emb x 3 : Fin 2560) : ℕ) = 512 * (s : ℕ) + 128 * (k : ℕ) + 1 * ((x 3 : Fin 128) : ℕ) := rfl
      obtain ⟨a1, a2, a3⟩ := sec_at s k (x 3) _ (e3.trans (by omega))
      show _ = stored x' w 1 (token t _) (sec ((piece4 V k s r).1.emb x 3)) (blk ((piece4 V k s r).1.emb x 3)) (lane ((piece4 V k s r).1.emb x 3))
      rw [a1, a2, a3]
      refine congrArg (fun ρ => stored x' w 1 (token t ρ) s k (x 3)) (Fin.ext ?_)
      show 4 * ((128 * (r : ℕ) + ((x 2 : Fin 128) : ℕ)) % 128) + (128 * (r : ℕ) + ((x 2 : Fin 128) : ℕ)) / 128
        = 4 * (((piece4 V k s r).1.emb x 2 : Fin 128) : ℕ) + (((piece4 V k s r).1.emb x 1 : Fin 4) : ℕ)
      rw [e1, e2]
      omega
  · refine ⟨_, List.mem_flatMap.mpr ⟨_, mem_order (blk (y 3)) (sec (y 3)), List.mem_map_of_mem
      ((by decide : ∀ r : Fin 4, r ∈ ([3, 2, 1, 0] : List (Fin 4))) (y 1))⟩, ?_⟩
    show y ∈ (Rect.unit (s := S1x4x128x2560) ![0, ((y 1 : Fin 4) : ℕ), 0, 512 * (sec (y 3) : ℕ) + 128 * (blk (y 3) : ℕ)] S1x1x128x128.size
      (inb4 (y 1) (blk (y 3)) (sec (y 3)))).set
    refine Rect.mem_set_unit.mpr fun a => ?_
    have h0 : ((y 0 : Fin 1) : ℕ) < 1 := (y 0).isLt
    have h2 : ((y 2 : Fin 128) : ℕ) < 128 := (y 2).isLt
    have h3 : ((y 3 : Fin 2560) : ℕ) < 2560 := (y 3).isLt
    match a with
    | ⟨0, _⟩ => exact ⟨Nat.zero_le _, (show ((y 0 : Fin 1) : ℕ) < 0 + 1 by omega)⟩
    | ⟨1, _⟩ => exact ⟨le_refl _, Nat.lt_succ_self _⟩
    | ⟨2, _⟩ => exact ⟨Nat.zero_le _, (show ((y 2 : Fin 128) : ℕ) < 0 + 128 by omega)⟩
    | ⟨3, _⟩ =>
      show 512 * (((y 3 : Fin 2560) : ℕ) / 512) + 128 * (((y 3 : Fin 2560) : ℕ) % 512 / 128) ≤ ((y 3 : Fin 2560) : ℕ)
        ∧ ((y 3 : Fin 2560) : ℕ) < 512 * (((y 3 : Fin 2560) : ℕ) / 512) + 128 * (((y 3 : Fin 2560) : ℕ) % 512 / 128) + 128
      omega

theorem flat16 (x : S1x1x32x128.Idx) :
    (S32x128.rowMajor (ix2 (x 2 : Fin 32) (x 3 : Fin 128)) : ℕ) = (S1x1x32x128.rowMajor x : ℕ) := by
  rewrite [Shape.rowMajor_val_two, Shape.rowMajor_val_four]
  have h0 : ((x 0 : Fin 1) : ℕ) < 1 := (x 0).isLt
  have h1 : ((x 1 : Fin 1) : ℕ) < 1 := (x 1).isLt
  show ((x 2 : Fin 32) : ℕ) * 128 + ((x 3 : Fin 128) : ℕ)
    = ((((x 0 : Fin 1) : ℕ) * 1 + ((x 1 : Fin 1) : ℕ)) * 32 + ((x 2 : Fin 32) : ℕ)) * 128 + ((x 3 : Fin 128) : ℕ)
  omega

theorem cut16_apply (v : FVec Ideal S512x128 .bf16) (r : Fin 16) (q : Fin 32) (l : Fin 128) :
    extractStridedSlice S32x128 ![32 * (r : ℕ), 0] v (cut16 r) (ix2 q l)
      = v (ix2 (⟨32 * (r : ℕ) + q, by omega⟩ : Fin 512) l) := by
  refine extractStridedSlice_apply _ _ _ _ _ fun a => ?_
  match a with
  | ⟨0, _⟩ => rfl
  | ⟨1, _⟩ => exact (Nat.zero_add _).symm

/-- The group's pieces by phases of 16 leave what is stored in its block. -/
theorem read16 (V : Fin 4 → Fin 5 → FVec Ideal S512x128 .bf16) (x' : Fin 2048 → Fin 1024 → EReal) (w : Fin 1024 → Fin 5120 → EReal)
    (H : ∀ k s r l, V k s (ix2 r l) = stored x' w 2 (token t (row16 r)) s k l) (y : S1x16x32x2560.Idx) :
    VO0_13.read (Elt Ideal) (VO0_13.writes (Elt Ideal) VO0_13.junk (list16 V)) y
      = stored x' w 2 (token t (phase16 (y 1) (y 2))) (sec (y 3)) (blk (y 3)) (lane (y 3)) := by
  refine View.read_writes_apply_of_pieces (v := VO0_13) VO0_13.junk
    (fun y : S1x16x32x2560.Idx => stored x' w 2 (token t (phase16 (y 1) (y 2))) (sec (y 3)) (blk (y 3)) (lane (y 3))) (list16 V) ?_ y ?_
  · intro p hp x
    obtain ⟨⟨k, s⟩, _, hp⟩ := List.mem_flatMap.mp hp
    obtain ⟨r, _, rfl⟩ := List.mem_map.mp hp
    have h0 : ((x 0 : Fin 1) : ℕ) < 1 := (x 0).isLt
    have h1 : ((x 1 : Fin 1) : ℕ) < 1 := (x 1).isLt
    have h2 : ((x 2 : Fin 32) : ℕ) < 32 := (x 2).isLt
    refine (shapeCast_apply _ _ _ (ix2 (x 2 : Fin 32) (x 3 : Fin 128)) ?_).trans
      ((cut16_apply (V k s) r (x 2) (x 3)).trans ((H k s _ (x 3)).trans ?_))
    · exact flat16 x
    · have e1 : (((piece16 V k s r).1.emb x 1 : Fin 16) : ℕ) = (r : ℕ) + 1 * ((x 1 : Fin 1) : ℕ) := rfl
      have e2 : (((piece16 V k s r).1.emb x 2 : Fin 32) : ℕ) = 0 + 1 * ((x 2 : Fin 32) : ℕ) := rfl
      have e3 : (((piece16 V k s r).1.emb x 3 : Fin 2560) : ℕ) = 512 * (s : ℕ) + 128 * (k : ℕ) + 1 * ((x 3 : Fin 128) : ℕ) := rfl
      obtain ⟨a1, a2, a3⟩ := sec_at s k (x 3) _ (e3.trans (by omega))
      show _ = stored x' w 2 (token t _) (sec ((piece16 V k s r).1.emb x 3)) (blk ((piece16 V k s r).1.emb x 3)) (lane ((piece16 V k s r).1.emb x 3))
      rw [a1, a2, a3]
      refine congrArg (fun ρ => stored x' w 2 (token t ρ) s k (x 3)) (Fin.ext ?_)
      show 16 * ((32 * (r : ℕ) + ((x 2 : Fin 32) : ℕ)) % 32) + (32 * (r : ℕ) + ((x 2 : Fin 32) : ℕ)) / 32
        = 16 * (((piece16 V k s r).1.emb x 2 : Fin 32) : ℕ) + (((piece16 V k s r).1.emb x 1 : Fin 16) : ℕ)
      rw [e1, e2]
      omega
  · refine ⟨_, List.mem_flatMap.mpr ⟨_, mem_order (blk (y 3)) (sec (y 3)), List.mem_map_of_mem
      ((by decide : ∀ r : Fin 16, r ∈ ([15, 14, 13, 12, 11, 10, 9, 8, 7, 6, 5, 4, 3, 2, 1, 0] : List (Fin 16))) (y 1))⟩, ?_⟩
    show y ∈ (Rect.unit (s := S1x16x32x2560) ![0, ((y 1 : Fin 16) : ℕ), 0, 512 * (sec (y 3) : ℕ) + 128 * (blk (y 3) : ℕ)] S1x1x32x128.size
      (inb16 (y 1) (blk (y 3)) (sec (y 3)))).set
    refine Rect.mem_set_unit.mpr fun a => ?_
    have h0 : ((y 0 : Fin 1) : ℕ) < 1 := (y 0).isLt
    have h2 : ((y 2 : Fin 32) : ℕ) < 32 := (y 2).isLt
    have h3 : ((y 3 : Fin 2560) : ℕ) < 2560 := (y 3).isLt
    match a with
    | ⟨0, _⟩ => exact ⟨Nat.zero_le _, (show ((y 0 : Fin 1) : ℕ) < 0 + 1 by omega)⟩
    | ⟨1, _⟩ => exact ⟨le_refl _, Nat.lt_succ_self _⟩
    | ⟨2, _⟩ => exact ⟨Nat.zero_le _, (show ((y 2 : Fin 32) : ℕ) < 0 + 32 by omega)⟩
    | ⟨3, _⟩ =>
      show 512 * (((y 3 : Fin 2560) : ℕ) / 512) + 128 * (((y 3 : Fin 2560) : ℕ) % 512 / 128) ≤ ((y 3 : Fin 2560) : ℕ)
        ∧ ((y 3 : Fin 2560) : ℕ) < 512 * (((y 3 : Fin 2560) : ℕ) / 512) + 128 * (((y 3 : Fin 2560) : ℕ) % 512 / 128) + 128
      omega

theorem readu (u : FVec Ideal S512x512 .f32) (y : S1x512x512.Idx) :
    VO0_14.read (Elt Ideal) (VO0_14.writes (Elt Ideal) VO0_14.junk
      [⟨Rect.unit (s := S1x512x512) ![0, 0, 0] S1x512x512.size inbu, shapeCast S1x512x512 u shapeCasts_S512x512_S1x512x512⟩]) y
      = u (ix2 (y 1 : Fin 512) (y 2 : Fin 512)) := by
  refine View.read_writes_apply_of_pieces (Val := Elt Ideal) (v := VO0_14) VO0_14.junk
    (fun y : S1x512x512.Idx => u (ix2 (y 1 : Fin 512) (y 2 : Fin 512))) _ ?_ y ?_
  · intro p hp x
    obtain rfl := List.mem_singleton.mp hp
    refine (shapeCast_apply _ _ _ (ix2 (x 1 : Fin 512) (x 2 : Fin 512)) ?_).trans (congrArg u ?_)
    · rewrite [Shape.rowMajor_val_two, Shape.rowMajor_val_three]
      have h0 : ((x 0 : Fin 1) : ℕ) < 1 := (x 0).isLt
      show ((x 1 : Fin 512) : ℕ) * 512 + ((x 2 : Fin 512) : ℕ) = (((x 0 : Fin 1) : ℕ) * 512 + ((x 1 : Fin 512) : ℕ)) * 512 + ((x 2 : Fin 512) : ℕ)
      omega
    · funext a
      apply Fin.ext
      match a with
      | ⟨0, _⟩ => exact ((Nat.zero_add _).trans (Nat.one_mul _)).symm
      | ⟨1, _⟩ => exact ((Nat.zero_add _).trans (Nat.one_mul _)).symm
  · refine ⟨_, List.mem_singleton_self _, ?_⟩
    show y ∈ (Rect.unit (s := S1x512x512) ![0, 0, 0] S1x512x512.size inbu).set
    refine Rect.mem_set_unit.mpr fun a => ?_
    match a with
    | ⟨0, _⟩ => exact ⟨Nat.zero_le _, (y 0).isLt.trans_eq (Nat.zero_add _).symm⟩
    | ⟨1, _⟩ => exact ⟨Nat.zero_le _, (y 1).isLt.trans_eq (Nat.zero_add _).symm⟩
    | ⟨2, _⟩ => exact ⟨Nat.zero_le _, (y 2).isLt.trans_eq (Nat.zero_add _).symm⟩

/-! ## The outputs of a grid point -/

set_option maxHeartbeats 1000000 in
theorem outs11 : (outsAt0 m c t).1 = VO0_11.read (Elt Ideal) (VO0_11.writes (Elt Ideal) VO0_11.junk (run m c t).1) := by
  unfold outsAt0 out0_A_11
  rfl
set_option maxHeartbeats 1000000 in
theorem outs12 : (outsAt0 m c t).2.1 = VO0_12.read (Elt Ideal) (VO0_12.writes (Elt Ideal) VO0_12.junk (run m c t).2.1) := by
  unfold outsAt0 out0_A_12
  rfl
set_option maxHeartbeats 1000000 in
theorem outs13 : (outsAt0 m c t).2.2.1 = VO0_13.read (Elt Ideal) (VO0_13.writes (Elt Ideal) VO0_13.junk (run m c t).2.2.1) := by
  unfold outsAt0 out0_A_13
  rfl
set_option maxHeartbeats 1000000 in
theorem outs14 : (outsAt0 m c t).2.2.2 = VO0_14.read (Elt Ideal) (VO0_14.writes (Elt Ideal) VO0_14.junk (run m c t).2.2.2.1) := by
  unfold outsAt0 out0_A_14
  dsimp only

theorem point11 (y : S1x512x2560.Idx) :
    (outsAt0 m c t).1 y = stored0 (X m c (batch t)) (W m c) (token t (y 1)) (y 2) := by
  obtain ⟨pq, pk, pv, cosq, sinq, cos, sin, hL, hq, hk, hv, hcq, hsq, hc, hs⟩ := pieces1 m c t
  rw [outs11, hL]
  exact read1 t _ _ _ (vals m c t 0 slab64 slab1 tab64 tab1 row64 id slab64_apply slab1_apply tab64_apply tab1_apply 0 1536 3072
    (by decide) (by decide) (by decide) rfl rfl rfl pq pk pv cosq sinq cos sin hq hk hv hcq hsq hc hs) y

theorem point12 (y : S1x4x128x2560.Idx) :
    (outsAt0 m c t).2.1 y = stored (X m c (batch t)) (W m c) 1 (token t (phase4 (y 1) (y 2)))
      (sec (y 3)) (blk (y 3)) (lane (y 3)) := by
  obtain ⟨pq, pk, pv, cosq, sinq, cos, sin, hL, hq, hk, hv, hcq, hsq, hc, hs⟩ := pieces4 m c t
  rw [outs12, hL]
  exact read4 t _ _ _ (fun k s r l => (vals m c t 1 slab4 slab4 tab4 tab4 row4 row4 slab4_apply slab4_apply tab4_apply tab4_apply 512 2048 3584
    (by decide) (by decide) (by decide) rfl rfl rfl pq pk pv cosq sinq cos sin hq hk hv hcq hsq hc hs k s r l).trans (by rw [ite_self])) y

theorem point13 (y : S1x16x32x2560.Idx) :
    (outsAt0 m c t).2.2.1 y = stored (X m c (batch t)) (W m c) 2 (token t (phase16 (y 1) (y 2)))
      (sec (y 3)) (blk (y 3)) (lane (y 3)) := by
  obtain ⟨pq, pk, pv, cosq, sinq, cos, sin, hL, hq, hk, hv, hcq, hsq, hc, hs⟩ := pieces16 m c t
  rw [outs13, hL]
  exact read16 t _ _ _ (fun k s r l => (vals m c t 2 slab16 slab16 tab16 tab16 row16 row16 slab16_apply slab16_apply tab16_apply tab16_apply 1024 2560 4096
    (by decide) (by decide) (by decide) rfl rfl rfl pq pk pv cosq sinq cos sin hq hk hv hcq hsq hc hs k s r l).trans (by rw [ite_self])) y

theorem point14 (y : S1x512x512.Idx) :
    (outsAt0 m c t).2.2.2 y = proj (X m c (batch t) (token t (y 1))) (W m c) (last (y 2)) := by
  obtain ⟨u, hL, hu⟩ := piecesu m c t
  rw [outs14, hL, readu, hu]
  exact product m c t slab1 id slab1_apply 4608 (by decide) (y 1) (y 2) (batch t) _ rfl rfl _ rfl

end Proj.Points
-- ==== Proof.Proj.Final.lean ====
module

public import proofs.«01_k».proof.Proof.Proj.Points

/-! The arrays the run leaves. -/

set_option maxRecDepth 16384

@[expose] public noncomputable section

open Idealize.ShloMosaic Idealize.ShloMosaic.TcCoe Idealize.SL.Sem
open Idealize.ShloMosaic.Pipeline (Dat)
open Proj.Entries Proj.Blocks Proj.Points
open Cert.Kernel3Ideal Cert.Kernel3Ideal.Gen

namespace Proj.Final

variable (m : (ℓ : Loc nD τ sig) → Buf (Elt Ideal) ℓ) (c : Dev nD) (t : Fin cfg0.N)

/-- The token at a place of a phase. -/
def token4 (p : Fin 4) (q : Fin 512) : Fin 2048 := ⟨4 * (q : ℕ) + p, by omega⟩
def token16 (p : Fin 16) (q : Fin 128) : Fin 2048 := ⟨16 * (q : ℕ) + p, by omega⟩

/-- The arrays. -/
def result0 (i : S8x2048x2560.Idx) : EReal := stored0 (X m c (i 0)) (W m c) (i 1) (i 2)
def result1 (i : S8x4x512x2560.Idx) : EReal :=
  stored (X m c (i 0)) (W m c) 1 (token4 (i 1) (i 2)) (sec (i 3)) (blk (i 3)) (lane (i 3))
def result2 (i : S8x16x128x2560.Idx) : EReal :=
  stored (X m c (i 0)) (W m c) 2 (token16 (i 1) (i 2)) (sec (i 3)) (blk (i 3)) (lane (i 3))
def result3 (i : S8x2048x512.Idx) : EReal := proj (X m c (i 0) (i 1)) (W m c) (last (i 2))

theorem final11 : (dats m 0 c).arrAt 11 cfg0.N = result0 m c := by
  refine (dats m 0 c).arrAt_eq_of_covers 11 _ (by decide +kernel) fun t _ y => ?_
  blk_simp
  rw [after0_11]
  refine (point11 m c t y).trans ?_
  have h0 : ((y 0 : Fin 1) : ℕ) < 1 := (y 0).isLt
  have e0 : (((cfg0.win 11).blk t).view.emb y 0 : Fin 8) = batch t := by
    apply Fin.ext
    show _ = (t : ℕ) / 4
    blk_simp [idx t] <;> omega
  have e1 : (((cfg0.win 11).blk t).view.emb y 1 : Fin 2048) = token t (y 1) := by
    apply Fin.ext
    show _ = 512 * ((t : ℕ) % 4) + ((y 1 : Fin 512) : ℕ)
    blk_simp [idx t] <;> omega
  have e2 : (((cfg0.win 11).blk t).view.emb y 2 : Fin 2560) = y 2 := by
    apply Fin.ext
    blk_simp [idx t] <;> omega
  exact (congr (congr (congrArg (fun b => stored0 (X m c b) (W m c)) e0) e1) e2).symm

theorem final12 : (dats m 0 c).arrAt 12 cfg0.N = result1 m c := by
  refine (dats m 0 c).arrAt_eq_of_covers 12 _ (by decide +kernel) fun t _ y => ?_
  blk_simp
  rw [after0_12]
  refine (point12 m c t y).trans ?_
  have h0 : ((y 0 : Fin 1) : ℕ) < 1 := (y 0).isLt
  have e0 : (((cfg0.win 12).blk t).view.emb y 0 : Fin 8) = batch t := by
    apply Fin.ext
    show _ = (t : ℕ) / 4
    blk_simp [idx t] <;> omega
  have e1 : ((((cfg0.win 12).blk t).view.emb y 1 : Fin 4) : ℕ) = ((y 1 : Fin 4) : ℕ) := by
    blk_simp [idx t] <;> omega
  have e2 : ((((cfg0.win 12).blk t).view.emb y 2 : Fin 512) : ℕ) = 128 * ((t : ℕ) % 4) + ((y 2 : Fin 128) : ℕ) := by
    blk_simp [idx t] <;> omega
  have e3 : (((cfg0.win 12).blk t).view.emb y 3 : Fin 2560) = y 3 := by
    apply Fin.ext
    blk_simp [idx t] <;> omega
  have e4 : token4 (((cfg0.win 12).blk t).view.emb y 1) (((cfg0.win 12).blk t).view.emb y 2) = token t (phase4 (y 1) (y 2)) := by
    apply Fin.ext
    show 4 * ((((cfg0.win 12).blk t).view.emb y 2 : Fin 512) : ℕ) + ((((cfg0.win 12).blk t).view.emb y 1 : Fin 4) : ℕ)
      = 512 * ((t : ℕ) % 4) + (4 * ((y 2 : Fin 128) : ℕ) + ((y 1 : Fin 4) : ℕ))
    rw [e1, e2]
    omega
  exact (congr (congr (congrArg (fun b ρ (n : Fin 2560) => stored (X m c b) (W m c) 1 ρ (sec n) (blk n) (lane n)) e0) e4) e3).symm

theorem final13 : (dats m 0 c).arrAt 13 cfg0.N = result2 m c := by
  refine (dats m 0 c).arrAt_eq_of_covers 13 _ (by decide +kernel) fun t _ y => ?_
  blk_simp
  rw [after0_13]
  refine (point13 m c t y).trans ?_
  have h0 : ((y 0 : Fin 1) : ℕ) < 1 := (y 0).isLt
  have e0 : (((cfg0.win 13).blk t).view.emb y 0 : Fin 8) = batch t := by
    apply Fin.ext
    show _ = (t : ℕ) / 4
    blk_simp [idx t] <;> omega
  have e1 : ((((cfg0.win 13).blk t).view.emb y 1 : Fin 16) : ℕ) = ((y 1 : Fin 16) : ℕ) := by
    blk_simp [idx t] <;> omega
  have e2 : ((((cfg0.win 13).blk t).view.emb y 2 : Fin 128) : ℕ) = 32 * ((t : ℕ) % 4) + ((y 2 : Fin 32) : ℕ) := by
    blk_simp [idx t] <;> omega
  have e3 : (((cfg0.win 13).blk t).view.emb y 3 : Fin 2560) = y 3 := by
    apply Fin.ext
    blk_simp [idx t] <;> omega
  have e4 : token16 (((cfg0.win 13).blk t).view.emb y 1) (((cfg0.win 13).blk t).view.emb y 2) = token t (phase16 (y 1) (y 2)) := by
    apply Fin.ext
    show 16 * ((((cfg0.win 13).blk t).view.emb y 2 : Fin 128) : ℕ) + ((((cfg0.win 13).blk t).view.emb y 1 : Fin 16) : ℕ)
      = 512 * ((t : ℕ) % 4) + (16 * ((y 2 : Fin 32) : ℕ) + ((y 1 : Fin 16) : ℕ))
    rw [e1, e2]
    omega
  exact (congr (congr (congrArg (fun b ρ (n : Fin 2560) => stored (X m c b) (W m c) 2 ρ (sec n) (blk n) (lane n)) e0) e4) e3).symm

theorem final14 : (dats m 0 c).arrAt 14 cfg0.N = result3 m c := by
  refine (dats m 0 c).arrAt_eq_of_covers 14 _ (by decide +kernel) fun t _ y => ?_
  blk_simp
  rw [after0_14]
  refine (point14 m c t y).trans ?_
  have h0 : ((y 0 : Fin 1) : ℕ) < 1 := (y 0).isLt
  have e0 : (((cfg0.win 14).blk t).view.emb y 0 : Fin 8) = batch t := by
    apply Fin.ext
    show _ = (t : ℕ) / 4
    blk_simp [idx t] <;> omega
  have e1 : (((cfg0.win 14).blk t).view.emb y 1 : Fin 2048) = token t (y 1) := by
    apply Fin.ext
    show _ = 512 * ((t : ℕ) % 4) + ((y 1 : Fin 512) : ℕ)
    blk_simp [idx t] <;> omega
  have e2 : (((cfg0.win 14).blk t).view.emb y 2 : Fin 512) = y 2 := by
    apply Fin.ext
    blk_simp [idx t] <;> omega
  exact (congr (congr (congrArg (fun b s (n : Fin 512) => proj (X m c b s) (W m c) (last n)) e0) e1) e2).symm

end Proj.Final
-- ==== Proof.Proj.Reference.lean ====
module

public import proofs.«01_k».proof.Proof.Gen.Reference3Ideal.Run
public import proofs.«01_k».proof.Proof.Gen.Reference3Ideal.Read
public import proofs.«01_k».proof.Proof.Proj.Angles

/-! The reference's results, read at an index. -/

set_option maxRecDepth 16384

@[expose] public noncomputable section

open Idealize.ShloMosaic Idealize.ShloMosaic.TcCoe Idealize.SL.Sem
open Cert.Reference3Ideal Cert.Reference3Ideal.Gen Cert.Reference3Ideal.Read

namespace Proj.Reference

variable (x0 : (⟨S8x2048x1024, .f32⟩ : BufTy).Contents (Elt Ideal)) (x1 : (⟨S1024x7168, .f32⟩ : BufTy).Contents (Elt Ideal))

theorem v12 (s : Fin 2048) (j : Fin 32) : val_main_v12 (F := Ideal) (ix2 s j) = Ideal.cos (theta s j) := by
  pointwise [val_main_v12, val_main_v11, val_main_v10, val_main_v9, val_main_v8, val_main_v7, val_main_v6, val_main_v5, val_main_v4, val_main_v3, val_main_v2, val_main_v1, val_main_v0, val_main_cst, val_main_cst_0]
  rfl

theorem v13 (s : Fin 2048) (j : Fin 32) : val_main_v13 (F := Ideal) (ix2 s j) = Ideal.sin (theta s j) := by
  pointwise [val_main_v13, val_main_v11, val_main_v10, val_main_v9, val_main_v8, val_main_v7, val_main_v6, val_main_v5, val_main_v4, val_main_v3, val_main_v2, val_main_v1, val_main_v0, val_main_cst, val_main_cst_0]
  rfl

theorem v14 (b : Fin 8) (s : Fin 2048) (n : Fin 7168) : val_main_v14 (F := Ideal) x0 x1 (ix3 b s n) = ∑ k : Fin 1024, x0 (ix3 b s k) * x1 (ix2 k n) := by
  pointwise [val_main_v14]

/-! ## The rows of the reference's layouts -/

theorem heads_apply (y : S8x2048x1536.Idx → EReal) (b : Fin 8) (s : Fin 2048) (g : Fin 3) (h : Fin 8) (d : Fin 64) :
    shapeCast S8x2048x3x8x64 y shapeCasts_S8x2048x1536_S8x2048x3x8x64 (ix5 b s g h d)
      = y (ix3 b s ⟨512 * g + 64 * h + d, by omega⟩) :=
  shapeCast_apply _ _ _ _ (by
    rewrite [Shape.rowMajor_val_three, Shape.rowMajor_val_five]
    show ((b : ℕ) * 2048 + s) * 1536 + (512 * g + 64 * h + d) = (((((b : ℕ) * 2048 + s) * 3 + g) * 8 + h) * 64 + d)
    omega)

/-- A group's heads, flattened to any shape, at an index. -/
theorem pick_apply {t : Shape} (o : ℕ) (g : Fin 3) (hs : S8x2048x3x8x64.Slices ![0, 0, o, 0, 0] S8x2048x1x8x64)
    (y : S8x2048x3x8x64.Idx → EReal) (b : Fin 8) (ρ : Fin 2048) (n : Fin 512) (h : S8x2048x1x8x64.ShapeCasts S8x2048x8x64)
    (h' : S8x2048x8x64.ShapeCasts t) (i : t.Idx)
    (hi : (S8x2048x8x64.rowMajor (ix4 b ρ (⟨n / 64, by omega⟩ : Fin 8) (⟨n % 64, by omega⟩ : Fin 64))).val = (t.rowMajor i).val)
    (hg : (g : ℕ) = o) :
    shapeCast t (shapeCast S8x2048x8x64 (extractStridedSlice S8x2048x1x8x64 ![0, 0, o, 0, 0] y hs) h) h' i
      = y (ix5 b ρ g ⟨n / 64, by omega⟩ ⟨n % 64, by omega⟩) := by
  refine (shapeCast_apply _ _ _ _ hi).trans ?_
  refine (shapeCast_apply _ _ _ (ix5 b ρ 0 ⟨n / 64, by omega⟩ ⟨n % 64, by omega⟩) (by
    rewrite [Shape.rowMajor_val_four, Shape.rowMajor_val_five]
    show (((((b : ℕ) * 2048 + ρ) * 1 + 0) * 8 + n / 64) * 64 + n % 64) = ((((b : ℕ) * 2048 + ρ) * 8 + n / 64) * 64 + n % 64)
    omega)).trans ?_
  refine extractStridedSlice_apply _ _ _ _ _ (fun a => ?_)
  subst hg
  match a with
  | ⟨0, _⟩ => exact (Nat.zero_add _).symm
  | ⟨1, _⟩ => exact (Nat.zero_add _).symm
  | ⟨2, _⟩ => exact (Nat.add_zero _).symm
  | ⟨3, _⟩ => exact (Nat.zero_add _).symm
  | ⟨4, _⟩ => exact (Nat.zero_add _).symm

/-- The rows of a group by phases of 4. -/
def lay1 (y : S8x2048x3x8x64.Idx → EReal) : S8x2048x512.Idx → EReal :=
  shapeCast S8x2048x512 (transpose S8x4x512x512 [0, 2, 1, 3] (shapeCast S8x512x4x512 (shapeCast S8x2048x8x64
    (extractStridedSlice S8x2048x1x8x64 ![0, 0, 1, 0, 0] y slices_S8x2048x3x8x64_S8x2048x1x8x64_0_0_1_0_0)
    shapeCasts_S8x2048x1x8x64_S8x2048x8x64) shapeCasts_S8x2048x8x64_S8x512x4x512) transposes_S8x512x4x512_S8x4x512x512_0_2_1_3) shapeCasts_S8x4x512x512_S8x2048x512

theorem lay1_apply (y : S8x2048x3x8x64.Idx → EReal) (b : Fin 8) (s : Fin 2048) (n : Fin 512) (ρ : Fin 2048)
    (hρ : (ρ : ℕ) = 4 * (s % 512) + s / 512) :
    lay1 y (ix3 b s n) = y (ix5 b ρ 1 ⟨n / 64, by omega⟩ ⟨n % 64, by omega⟩) := by
  refine (shapeCast_apply _ _ _ (ix4 b ⟨s / 512, by omega⟩ ⟨s % 512, by omega⟩ n) (by
    rewrite [Shape.rowMajor_val_three, Shape.rowMajor_val_four]
    show (((b : ℕ) * 4 + s / 512) * 512 + s % 512) * 512 + n = ((b : ℕ) * 2048 + s) * 512 + n
    omega)).trans ?_
  refine (transpose_apply _ _ _ _ (ix4 b ⟨s % 512, by omega⟩ ⟨s / 512, by omega⟩ n) (by
    intro a; fin_cases a <;> rfl)).trans ?_
  exact pick_apply 1 1 _ y b ρ n _ _ _ (by
    rewrite [Shape.rowMajor_val_four, Shape.rowMajor_val_four]
    show (((b : ℕ) * 2048 + ρ) * 8 + n / 64) * 64 + n % 64 = (((b : ℕ) * 512 + s % 512) * 4 + s / 512) * 512 + n
    omega) rfl

/-- The rows of a group by phases of 16. -/
def lay2 (y : S8x2048x3x8x64.Idx → EReal) : S8x2048x512.Idx → EReal :=
  shapeCast S8x2048x512 (transpose S8x16x128x512 [0, 2, 1, 3] (shapeCast S8x128x16x512 (shapeCast S8x2048x8x64
    (extractStridedSlice S8x2048x1x8x64 ![0, 0, 2, 0, 0] y slices_S8x2048x3x8x64_S8x2048x1x8x64_0_0_2_0_0)
    shapeCasts_S8x2048x1x8x64_S8x2048x8x64) shapeCasts_S8x2048x8x64_S8x128x16x512) transposes_S8x128x16x512_S8x16x128x512_0_2_1_3) shapeCasts_S8x16x128x512_S8x2048x512

theorem lay2_apply (y : S8x2048x3x8x64.Idx → EReal) (b : Fin 8) (s : Fin 2048) (n : Fin 512) (ρ : Fin 2048)
    (hρ : (ρ : ℕ) = 16 * (s % 128) + s / 128) :
    lay2 y (ix3 b s n) = y (ix5 b ρ 2 ⟨n / 64, by omega⟩ ⟨n % 64, by omega⟩) := by
  refine (shapeCast_apply _ _ _ (ix4 b ⟨s / 128, by omega⟩ ⟨s % 128, by omega⟩ n) (by
    rewrite [Shape.rowMajor_val_three, Shape.rowMajor_val_four]
    show (((b : ℕ) * 16 + s / 128) * 128 + s % 128) * 512 + n = ((b : ℕ) * 2048 + s) * 512 + n
    omega)).trans ?_
  refine (transpose_apply _ _ _ _ (ix4 b ⟨s % 128, by omega⟩ ⟨s / 128, by omega⟩ n) (by
    intro a; fin_cases a <;> rfl)).trans ?_
  exact pick_apply 2 2 _ y b ρ n _ _ _ (by
    rewrite [Shape.rowMajor_val_four, Shape.rowMajor_val_four]
    show (((b : ℕ) * 2048 + ρ) * 8 + n / 64) * 64 + n % 64 = (((b : ℕ) * 128 + s % 128) * 16 + s / 128) * 512 + n
    omega) rfl

/-- The rows of the first group as they are. -/
def lay0 (y : S8x2048x3x8x64.Idx → EReal) : S8x2048x512.Idx → EReal :=
  shapeCast S8x2048x512 (transpose S8x1x2048x512 [0, 2, 1, 3] (shapeCast S8x2048x1x512 (shapeCast S8x2048x8x64
    (extractStridedSlice S8x2048x1x8x64 ![0, 0, 0, 0, 0] y slices_S8x2048x3x8x64_S8x2048x1x8x64_0_0_0_0_0)
    shapeCasts_S8x2048x1x8x64_S8x2048x8x64) shapeCasts_S8x2048x8x64_S8x2048x1x512) transposes_S8x2048x1x512_S8x1x2048x512_0_2_1_3)
    shapeCasts_S8x1x2048x512_S8x2048x512

theorem lay0_apply (y : S8x2048x3x8x64.Idx → EReal) (b : Fin 8) (s : Fin 2048) (n : Fin 512) :
    lay0 y (ix3 b s n) = y (ix5 b s 0 ⟨n / 64, by omega⟩ ⟨n % 64, by omega⟩) := by
  refine (shapeCast_apply _ _ _ (ix4 b 0 s n) (by
    rewrite [Shape.rowMajor_val_three, Shape.rowMajor_val_four]
    show (((b : ℕ) * 1 + 0) * 2048 + s) * 512 + n = ((b : ℕ) * 2048 + s) * 512 + n
    omega)).trans ?_
  refine (transpose_apply _ _ _ _ (ix4 b s 0 n) (by
    intro a; fin_cases a <;> rfl)).trans ?_
  exact pick_apply 0 0 _ y b s n _ _ _ (by
    rewrite [Shape.rowMajor_val_four, Shape.rowMajor_val_four]
    show (((b : ℕ) * 2048 + s) * 8 + n / 64) * 64 + n % 64 = (((b : ℕ) * 2048 + s) * 1 + 0) * 512 + n
    omega) rfl

/-- The rows of the first group's queries, 16 tokens apart within each 128. -/
def lay0q (y : S8x2048x3x8x64.Idx → EReal) : S8x2048x512.Idx → EReal :=
  shapeCast S8x2048x512 (transpose S8x16x16x8x512 [0, 1, 3, 2, 4] (shapeCast S8x16x8x16x512 (shapeCast S8x2048x8x64
    (extractStridedSlice S8x2048x1x8x64 ![0, 0, 0, 0, 0] y slices_S8x2048x3x8x64_S8x2048x1x8x64_0_0_0_0_0)
    shapeCasts_S8x2048x1x8x64_S8x2048x8x64) shapeCasts_S8x2048x8x64_S8x16x8x16x512) transposes_S8x16x8x16x512_S8x16x16x8x512_0_1_3_2_4)
    shapeCasts_S8x16x16x8x512_S8x2048x512

theorem lay0q_apply (y : S8x2048x3x8x64.Idx → EReal) (b : Fin 8) (s : Fin 2048) (n : Fin 512) :
    lay0q y (ix3 b s n) = y (ix5 b (spread s) 0 ⟨n / 64, by omega⟩ ⟨n % 64, by omega⟩) := by
  refine (shapeCast_apply _ _ _ (ix5 b ⟨s / 128, by omega⟩ ⟨s / 8 % 16, by omega⟩ ⟨s % 8, by omega⟩ n) (by
    rewrite [Shape.rowMajor_val_three, Shape.rowMajor_val_five]
    show ((((b : ℕ) * 16 + s / 128) * 16 + s / 8 % 16) * 8 + s % 8) * 512 + n = ((b : ℕ) * 2048 + s) * 512 + n
    omega)).trans ?_
  refine (transpose_apply _ _ _ _ (ix5 b ⟨s / 128, by omega⟩ ⟨s % 8, by omega⟩ ⟨s / 8 % 16, by omega⟩ n) (by
    intro a; fin_cases a <;> rfl)).trans ?_
  exact pick_apply 0 0 _ y b (spread s) n _ _ _ (by
    rewrite [Shape.rowMajor_val_four, Shape.rowMajor_val_five]
    show (((b : ℕ) * 2048 + (128 * (s / 128) + 16 * (s % 8) + s / 8 % 16)) * 8 + n / 64) * 64 + n % 64
      = ((((b : ℕ) * 16 + s / 128) * 8 + s % 8) * 16 + s / 8 % 16) * 512 + n
    omega) rfl

/-! ## One head of a pair kept -/

/-- The first heads of the pairs, and zeros. -/
def keepL (y : S8x2048x512.Idx → EReal) : S8x2048x512.Idx → EReal :=
  shapeCast S8x2048x512 (concatenate S8x2048x4x2x64 3 [⟨S8x2048x4x1x64, extractStridedSlice S8x2048x4x1x64 ![0, 0, 0, 0, 0]
      (shapeCast S8x2048x4x2x64 y shapeCasts_S8x2048x512_S8x2048x4x2x64) slices_S8x2048x4x2x64_S8x2048x4x1x64_0_0_0_0_0⟩,
    ⟨S8x2048x4x1x64, val_main_v59 (F := Ideal)⟩] concatenates_S8x2048x4x1x64_S8x2048x4x1x64_S8x2048x4x2x64_d3)
    shapeCasts_S8x2048x4x2x64_S8x2048x512

/-- Zeros, and the second heads of the pairs. -/
def keepR (y : S8x2048x512.Idx → EReal) : S8x2048x512.Idx → EReal :=
  shapeCast S8x2048x512 (concatenate S8x2048x4x2x64 3 [⟨S8x2048x4x1x64, val_main_v59 (F := Ideal)⟩,
    ⟨S8x2048x4x1x64, extractStridedSlice S8x2048x4x1x64 ![0, 0, 0, 1, 0]
      (shapeCast S8x2048x4x2x64 y shapeCasts_S8x2048x512_S8x2048x4x2x64) slices_S8x2048x4x2x64_S8x2048x4x1x64_0_0_0_1_0⟩]
    concatenates_S8x2048x4x1x64_S8x2048x4x1x64_S8x2048x4x2x64_d3)
    shapeCasts_S8x2048x4x2x64_S8x2048x512

theorem pair_apply (y : S8x2048x512.Idx → EReal) (b : Fin 8) (s : Fin 2048) (p : Fin 4) (h : Fin 2) (d : Fin 64) (n : Fin 512)
    (hn : (n : ℕ) = 128 * p + 64 * h + d) :
    shapeCast S8x2048x4x2x64 y shapeCasts_S8x2048x512_S8x2048x4x2x64 (ix5 b s p h d) = y (ix3 b s n) :=
  shapeCast_apply _ _ _ _ (by
    rewrite [Shape.rowMajor_val_three, Shape.rowMajor_val_five]
    show ((b : ℕ) * 2048 + s) * 512 + n = (((((b : ℕ) * 2048 + s) * 4 + p) * 2 + h) * 64 + d)
    omega)

theorem unpair_apply (z : S8x2048x4x2x64.Idx → EReal) (b : Fin 8) (s : Fin 2048) (n : Fin 512) :
    shapeCast S8x2048x512 z shapeCasts_S8x2048x4x2x64_S8x2048x512 (ix3 b s n)
      = z (ix5 b s ⟨n / 128, by omega⟩ ⟨n / 64 % 2, by omega⟩ ⟨n % 64, by omega⟩) :=
  shapeCast_apply _ _ _ _ (by
    rewrite [Shape.rowMajor_val_three, Shape.rowMajor_val_five]
    show (((((b : ℕ) * 2048 + s) * 4 + n / 128) * 2 + n / 64 % 2) * 64 + n % 64) = ((b : ℕ) * 2048 + s) * 512 + n
    omega)

theorem keepL_apply (y : S8x2048x512.Idx → EReal) (b : Fin 8) (s : Fin 2048) (n : Fin 512) :
    keepL y (ix3 b s n) = if (n : ℕ) % 128 < 64 then y (ix3 b s n) else 0 := by
  refine (unpair_apply _ b s n).trans ?_
  have e := pair_apply y b s ⟨n / 128, by omega⟩ 0 ⟨n % 64, by omega⟩
  generalize shapeCast S8x2048x4x2x64 y _ = z at e ⊢
  pointwise [val_main_v59, val_main_cst_2]
  by_cases h : (n : ℕ) % 128 < 64
  · rw [dif_pos (by omega), if_pos h, ← e n (by show (n : ℕ) = 128 * (n / 128) + 64 * 0 + n % 64; omega)]
    refine congrArg z (funext fun a => Fin.ext ?_)
    fin_cases a <;> first | rfl | (show (n : ℕ) / 64 % 2 = 0; omega)
  · rw [dif_neg (by omega), if_neg h]

theorem keepR_apply (y : S8x2048x512.Idx → EReal) (b : Fin 8) (s : Fin 2048) (n : Fin 512) :
    keepR y (ix3 b s n) = if (n : ℕ) % 128 < 64 then 0 else y (ix3 b s n) := by
  refine (unpair_apply _ b s n).trans ?_
  have e := pair_apply y b s ⟨n / 128, by omega⟩ 1 ⟨n % 64, by omega⟩
  generalize shapeCast S8x2048x4x2x64 y _ = z at e ⊢
  pointwise [val_main_v59, val_main_cst_2]
  by_cases h : (n : ℕ) % 128 < 64
  · rw [dif_pos (by omega), if_pos h]
  · rw [dif_neg (by omega), if_neg h, ← e n (by show (n : ℕ) = 128 * (n / 128) + 64 * 1 + n % 64; omega)]
    refine congrArg z (funext fun a => Fin.ext ?_)
    fin_cases a <;> first | rfl | (show 1 + ((n : ℕ) / 64 % 2 - 1) = 1; omega)

/-! ## A group's result -/

/-- The five sections of a group. -/
def out (q k v : S8x2048x512.Idx → EReal) : S8x2048x2560.Idx → EReal :=
  truncf (F := Ideal) (φ := .f32) .bf16 (concatenate S8x2048x2560 2 [⟨S8x2048x512, keepL q⟩, ⟨S8x2048x512, keepR q⟩, ⟨S8x2048x512, k⟩, ⟨S8x2048x512, keepL v⟩, ⟨S8x2048x512, keepR v⟩]
    concatenates_S8x2048x512_S8x2048x512_S8x2048x512_S8x2048x512_S8x2048x512_S8x2048x2560_d2) bitsLt_bf16_f32

/-- One of five, by a section. -/
def five (i : Fin 5) (v w x y z : EReal) : EReal := match i with
  | 0 => v
  | 1 => w
  | 2 => x
  | 3 => y
  | 4 => z

theorem out_apply (q k v : S8x2048x512.Idx → EReal) (b : Fin 8) (s : Fin 2048) (i : Fin 5) (n : Fin 512) (n' : Fin 2560)
    (hn : (n' : ℕ) = 512 * i + n) :
    out q k v (ix3 b s n') = five i (keepL q (ix3 b s n)) (keepR q (ix3 b s n)) (k (ix3 b s n)) (keepL v (ix3 b s n))
      (keepR v (ix3 b s n)) := by
  unfold out
  generalize keepL q = ql
  generalize keepR q = qr
  generalize keepL v = vl
  generalize keepR v = vr
  pointwise
  have f : ∀ (z : S8x2048x512.Idx → EReal) (j : Fin 512), (j : ℕ) = n → z (ix3 b s j) = z (ix3 b s n) := fun z j h => by
    rw [Fin.ext h]
  match i with
  | 0 => rw [dif_pos (by simp at hn; omega)]; exact f _ _ (by simp at hn ⊢; omega)
  | 1 => rw [dif_neg (by simp at hn; omega), dif_pos (by simp at hn; omega)]; exact f _ _ (by simp at hn ⊢; omega)
  | 2 => rw [dif_neg (by simp at hn; omega), dif_neg (by simp at hn; omega), dif_pos (by simp at hn; omega)]; exact f _ _ (by simp at hn ⊢; omega)
  | 3 => rw [dif_neg (by simp at hn; omega), dif_neg (by simp at hn; omega), dif_neg (by simp at hn; omega), dif_pos (by simp at hn; omega)]; exact f _ _ (by simp at hn ⊢; omega)
  | 4 => rw [dif_neg (by simp at hn; omega), dif_neg (by simp at hn; omega), dif_neg (by simp at hn; omega), dif_neg (by simp at hn; omega)]; exact f _ _ (by simp at hn ⊢; omega)

theorem res0 : val_main_v85 (F := Ideal) x0 x1 = out (lay0q (val_main_v52 (F := Ideal) x0 x1)) (lay0 (val_main_v48 (F := Ideal) x0 x1)) (lay0 (val_main_v50 (F := Ideal) x0 x1)) := rfl
theorem res1 : val_main_v120 (F := Ideal) x0 x1 = out (lay1 (val_main_v52 (F := Ideal) x0 x1)) (lay1 (val_main_v48 (F := Ideal) x0 x1)) (lay1 (val_main_v50 (F := Ideal) x0 x1)) := rfl
theorem res2 : val_main_v155 (F := Ideal) x0 x1 = out (lay2 (val_main_v52 (F := Ideal) x0 x1)) (lay2 (val_main_v48 (F := Ideal) x0 x1)) (lay2 (val_main_v50 (F := Ideal) x0 x1)) := rfl

/-! ## The rotation -/

/-- The rotation of the heads. -/
def rope (y : S8x2048x3x8x64.Idx → EReal) : S8x2048x3x8x64.Idx → EReal :=
  concatenate S8x2048x3x8x64 4 [
    ⟨S8x2048x3x8x32, subf (F := Ideal) (φ := .f32) (mulf (extractStridedSlice S8x2048x3x8x32 ![0, 0, 0, 0, 0] y slices_S8x2048x3x8x64_S8x2048x3x8x32_0_0_0_0_0) (val_main_v21 (F := Ideal)))
      (mulf (extractStridedSlice S8x2048x3x8x32 ![0, 0, 0, 0, 32] y slices_S8x2048x3x8x64_S8x2048x3x8x32_0_0_0_0_32) (val_main_v23 (F := Ideal)))⟩,
    ⟨S8x2048x3x8x32, addf (F := Ideal) (φ := .f32) (mulf (extractStridedSlice S8x2048x3x8x32 ![0, 0, 0, 0, 0] y slices_S8x2048x3x8x64_S8x2048x3x8x32_0_0_0_0_0) (val_main_v23 (F := Ideal)))
      (mulf (extractStridedSlice S8x2048x3x8x32 ![0, 0, 0, 0, 32] y slices_S8x2048x3x8x64_S8x2048x3x8x32_0_0_0_0_32) (val_main_v21 (F := Ideal)))⟩]
    concatenates_S8x2048x3x8x32_S8x2048x3x8x32_S8x2048x3x8x64_d4

theorem v31 : val_main_v31 (F := Ideal) x0 x1 = rope (val_main_v16 (F := Ideal) x0 x1) := rfl
theorem v48 : val_main_v48 (F := Ideal) x0 x1 = rope (val_main_v33 (F := Ideal) x0 x1) := rfl

theorem v21 (b : Fin 8) (s : Fin 2048) (g : Fin 3) (h : Fin 8) (j : Fin 32) :
    val_main_v21 (F := Ideal) (ix5 b s g h j) = Ideal.cos (theta s j) := by
  pointwise [val_main_v21, val_main_v17]
  exact v12 s j

theorem v23 (b : Fin 8) (s : Fin 2048) (g : Fin 3) (h : Fin 8) (j : Fin 32) :
    val_main_v23 (F := Ideal) (ix5 b s g h j) = Ideal.sin (theta s j) := by
  pointwise [val_main_v23, val_main_v18]
  exact v13 s j

theorem rope_apply (y : S8x2048x3x8x64.Idx → EReal) (b : Fin 8) (s : Fin 2048) (g : Fin 3) (h : Fin 8) (d : Fin 64) :
    rope y (ix5 b s g h d) = if hd : (d : ℕ) < 32 then y (ix5 b s g h d) * Ideal.cos (theta s ⟨d, hd⟩) - y (ix5 b s g h ⟨d + 32, by omega⟩) * Ideal.sin (theta s ⟨d, hd⟩)
      else y (ix5 b s g h ⟨d - 32, by omega⟩) * Ideal.sin (theta s ⟨d - 32, by omega⟩) + y (ix5 b s g h d) * Ideal.cos (theta s ⟨d - 32, by omega⟩) := by
  pointwise [rope, v21, v23]
  split
  · exact congrArg (fun j => _ - y (ix5 b s g h j) * _) (Fin.ext (Nat.add_comm _ _))
  · exact congrArg (fun j => _ + y (ix5 b s g h j) * _) (Fin.ext (show 32 + ((d : ℕ) - 32) = d by omega))

theorem rope_turned (y : S8x2048x3x8x64.Idx → EReal) (b : Fin 8) (s : Fin 2048) (g : Fin 3) (h : Fin 8) (d : Fin 64)
    (P : Fin 128 → EReal) (hP : ∀ (d : Fin 64) (l : Fin 128), (l : ℕ) = 64 * (h % 2) + d → y (ix5 b s g h d) = P l)
    (l : Fin 128) (hl : (l : ℕ) = 64 * (h % 2) + d) :
    rope y (ix5 b s g h d) = turned P (cosRow s) (sinRow s) l := by
  rw [rope_apply]
  unfold turned cosRow sinRow
  by_cases hd : (d : ℕ) < 32
  · have hpl : (partner l : ℕ) = l + 32 := if_pos (by omega)
    rw [dif_pos hd, if_pos (by omega), show freq l = ⟨d, hd⟩ from Fin.ext (by show (l : ℕ) % 32 = d; omega), hP d l hl,
      hP ⟨d + 32, by omega⟩ (partner l) (by rw [hpl]; show (l : ℕ) + 32 = 64 * (h % 2) + (d + 32); omega), mul_neg, sub_eq_add_neg]
  · have hpl : (partner l : ℕ) = l - 32 := if_neg (by omega)
    rw [dif_neg hd, if_neg (by omega), show freq l = ⟨d - 32, by omega⟩ from Fin.ext (by show (l : ℕ) % 32 = d - 32; omega), hP d l hl,
      hP ⟨d - 32, by omega⟩ (partner l) (by rw [hpl]; show (l : ℕ) - 32 = 64 * (h % 2) + (d - 32); omega), add_comm]

/-! ## The projections -/

/-- The tokens of a batch, and the columns of the weight that are read. -/
abbrev row (b : Fin 8) : Fin 2048 → Fin 1024 → EReal := fun s k => x0 (ix3 b s k)
abbrev wt : Fin 1024 → Fin 5120 → EReal := fun k n => x1 (ix2 k ⟨n, by omega⟩)

theorem proj_apply (b : Fin 8) (s : Fin 2048) (n : Fin 7168) (n' : Fin 5120) (hn : (n' : ℕ) = n) :
    val_main_v14 (F := Ideal) x0 x1 (ix3 b s n) = proj (row x0 b s) (wt x1) n' := by
  rw [v14]
  unfold proj
  refine Finset.sum_congr rfl fun k _ => congrArg (fun n => x0 (ix3 b s k) * x1 (ix2 k n)) (Fin.ext hn.symm)

theorem slice_apply (o : ℕ) (ho : S8x2048x7168.Slices ![0, 0, o] S8x2048x1536) (b : Fin 8) (s : Fin 2048) (g : Fin 3) (h : Fin 8) (d : Fin 64)
    (n' : Fin 5120) (hn : (n' : ℕ) = o + 512 * g + 64 * h + d) :
    shapeCast S8x2048x3x8x64 (extractStridedSlice S8x2048x1536 ![0, 0, o] (val_main_v14 (F := Ideal) x0 x1) ho)
      shapeCasts_S8x2048x1536_S8x2048x3x8x64 (ix5 b s g h d) = proj (row x0 b s) (wt x1) n' := by
  refine (heads_apply _ b s g h d).trans (Eq.trans ?_ (proj_apply x0 x1 b s ⟨n', by omega⟩ n' rfl))
  refine extractStridedSlice_apply _ _ _ _ _ (fun a => ?_)
  match a with
  | ⟨0, _⟩ => exact (Nat.zero_add _).symm
  | ⟨1, _⟩ => exact (Nat.zero_add _).symm
  | ⟨2, _⟩ => show (n' : ℕ) = o + (512 * g + 64 * h + d); omega

section
variable (b : Fin 8) (ρ : Fin 2048) (g : Fin 3) (n : Fin 512) (s : Fin 5) (c : Fin 4) (l : Fin 128)
  (hn : (n : ℕ) = 128 * c + l)
include hn

theorem query (hs : sect s = 0) : val_main_v52 (F := Ideal) x0 x1 (ix5 b ρ g ⟨n / 64, by omega⟩ ⟨n % 64, by omega⟩)
    = turned (fun l => proj (row x0 b ρ) (wt x1) (column g s c l)) (cosRow ρ) (sinRow ρ) l * Ideal.ofBits .f32 0x3E38AA3B#32 := by
  have e : val_main_v52 (F := Ideal) x0 x1 (ix5 b ρ g ⟨n / 64, by omega⟩ ⟨n % 64, by omega⟩)
      = val_main_v31 (F := Ideal) x0 x1 (ix5 b ρ g ⟨n / 64, by omega⟩ ⟨n % 64, by omega⟩) * Ideal.ofBits .f32 0x3E38AA3B#32 := rfl
  rw [e, v31]
  refine congrArg (· * _) (rope_turned _ b ρ g _ _ _ (fun d l' hl' => slice_apply x0 x1 0 _ b ρ g _ d _ ?_) l ?_)
  · show sect s + 512 * (g : ℕ) + 128 * (c : ℕ) + (l' : ℕ) = 0 + 512 * g + 64 * (n / 64) + d
    dsimp only at hl'
    omega
  · show (l : ℕ) = 64 * (n / 64 % 2) + n % 64
    omega

theorem key (hs : sect s = 1536) : val_main_v48 (F := Ideal) x0 x1 (ix5 b ρ g ⟨n / 64, by omega⟩ ⟨n % 64, by omega⟩)
    = turned (fun l => proj (row x0 b ρ) (wt x1) (column g s c l)) (cosRow ρ) (sinRow ρ) l := by
  rw [v48]
  refine rope_turned _ b ρ g _ _ _ (fun d l' hl' => slice_apply x0 x1 1536 _ b ρ g _ d _ ?_) l ?_
  · show sect s + 512 * (g : ℕ) + 128 * (c : ℕ) + (l' : ℕ) = 1536 + 512 * g + 64 * (n / 64) + d
    dsimp only at hl'
    omega
  · show (l : ℕ) = 64 * (n / 64 % 2) + n % 64
    omega

theorem value (hs : sect s = 3072) : val_main_v50 (F := Ideal) x0 x1 (ix5 b ρ g ⟨n / 64, by omega⟩ ⟨n % 64, by omega⟩)
    = proj (row x0 b ρ) (wt x1) (column g s c l) := by
  refine slice_apply x0 x1 3072 _ b ρ g _ _ _ ?_
  show sect s + 512 * (g : ℕ) + 128 * (c : ℕ) + (l : ℕ) = 3072 + 512 * g + 64 * (n / 64) + n % 64
  omega
end

/-! ## The results -/

theorem group (g : Fin 3) (q k v : S8x2048x512.Idx → EReal) (b : Fin 8) (s ρq ρ : Fin 2048)
    (hq : ∀ n : Fin 512, q (ix3 b s n) = val_main_v52 (F := Ideal) x0 x1 (ix5 b ρq g ⟨n / 64, by omega⟩ ⟨n % 64, by omega⟩))
    (hk : ∀ n : Fin 512, k (ix3 b s n) = val_main_v48 (F := Ideal) x0 x1 (ix5 b ρ g ⟨n / 64, by omega⟩ ⟨n % 64, by omega⟩))
    (hv : ∀ n : Fin 512, v (ix3 b s n) = val_main_v50 (F := Ideal) x0 x1 (ix5 b ρ g ⟨n / 64, by omega⟩ ⟨n % 64, by omega⟩))
    (n : Fin 2560) :
    out q k v (ix3 b s n) = stored (row x0 b) (wt x1) g (if (n : ℕ) < 1024 then ρq else ρ) (sec n) (blk n) (lane n) := by
  have hn : (n : ℕ) % 512 = 128 * (blk n : ℕ) + (lane n : ℕ) := by
    show (n : ℕ) % 512 = 128 * (n % 512 / 128) + n % 128
    omega
  have hl : (n : ℕ) % 512 % 128 = (lane n : ℕ) := by
    show (n : ℕ) % 512 % 128 = n % 128
    omega
  have hs : (sec n : ℕ) = n / 512 := rfl
  rw [out_apply q k v b s (sec n) ⟨n % 512, by omega⟩ n (by show (n : ℕ) = 512 * (n / 512) + n % 512; omega)]
  generalize sec n = i at hs ⊢
  unfold stored
  match i with
  | 0 =>
    have : (n : ℕ) < 1024 := by simp at hs; omega
    dsimp only [five]
    rw [keepL_apply, hq, query x0 x1 b ρq g _ 0 (blk n) (lane n) hn rfl, if_pos this, hl]
    rfl
  | 1 =>
    have : (n : ℕ) < 1024 := by simp at hs; omega
    dsimp only [five]
    rw [keepR_apply, hq, query x0 x1 b ρq g _ 1 (blk n) (lane n) hn rfl, if_pos this, hl]
    rfl
  | 2 =>
    have : ¬(n : ℕ) < 1024 := by simp at hs; omega
    dsimp only [five]
    rw [hk, key x0 x1 b ρ g _ 2 (blk n) (lane n) hn rfl, if_neg this]
    rfl
  | 3 =>
    have : ¬(n : ℕ) < 1024 := by simp at hs; omega
    dsimp only [five]
    rw [keepL_apply, hv, value x0 x1 b ρ g _ 3 (blk n) (lane n) hn rfl, if_neg this, hl]
    rfl
  | 4 =>
    have : ¬(n : ℕ) < 1024 := by simp at hs; omega
    dsimp only [five]
    rw [keepR_apply, hv, value x0 x1 b ρ g _ 4 (blk n) (lane n) hn rfl, if_neg this, hl]
    rfl

theorem result0 (b : Fin 8) (s : Fin 2048) (n : Fin 2560) :
    val_main_v85 (F := Ideal) x0 x1 (ix3 b s n) = stored0 (row x0 b) (wt x1) s n := by
  rw [res0]
  exact group x0 x1 0 _ _ _ b s (spread s) s (lay0q_apply _ b s) (lay0_apply _ b s) (lay0_apply _ b s) n

theorem result1 (b : Fin 8) (p : Fin 4) (q : Fin 512) (n : Fin 2560) :
    val_main_v156 (F := Ideal) x0 x1 (ix4 b p q n)
      = stored (row x0 b) (wt x1) 1 ⟨4 * q + p, by omega⟩ (sec n) (blk n) (lane n) := by
  refine (shapeCast_apply (val_main_v120 (F := Ideal) x0 x1) shapeCasts_S8x2048x2560_S8x4x512x2560 _ (ix3 b ⟨512 * p + q, by omega⟩ n) (by
    rewrite [Shape.rowMajor_val_three, Shape.rowMajor_val_four]
    show ((b : ℕ) * 2048 + (512 * p + q)) * 2560 + n = (((b : ℕ) * 4 + p) * 512 + q) * 2560 + n
    omega)).trans ?_
  have h : (4 * (q : ℕ) + p) = 4 * ((512 * p + q) % 512) + (512 * p + q) / 512 := by omega
  rw [res1]
  refine (group x0 x1 1 _ _ _ b _ ⟨4 * q + p, by omega⟩ ⟨4 * q + p, by omega⟩ (fun n => lay1_apply _ b _ n _ h) (fun n => lay1_apply _ b _ n _ h) (fun n => lay1_apply _ b _ n _ h) n).trans ?_
  rw [ite_self]

theorem result2 (b : Fin 8) (p : Fin 16) (q : Fin 128) (n : Fin 2560) :
    val_main_v157 (F := Ideal) x0 x1 (ix4 b p q n)
      = stored (row x0 b) (wt x1) 2 ⟨16 * q + p, by omega⟩ (sec n) (blk n) (lane n) := by
  refine (shapeCast_apply (val_main_v155 (F := Ideal) x0 x1) shapeCasts_S8x2048x2560_S8x16x128x2560 _ (ix3 b ⟨128 * p + q, by omega⟩ n) (by
    rewrite [Shape.rowMajor_val_three, Shape.rowMajor_val_four]
    show ((b : ℕ) * 2048 + (128 * p + q)) * 2560 + n = (((b : ℕ) * 16 + p) * 128 + q) * 2560 + n
    omega)).trans ?_
  have h : (16 * (q : ℕ) + p) = 16 * ((128 * p + q) % 128) + (128 * p + q) / 128 := by omega
  rw [res2]
  refine (group x0 x1 2 _ _ _ b _ ⟨16 * q + p, by omega⟩ ⟨16 * q + p, by omega⟩ (fun n => lay2_apply _ b _ n _ h) (fun n => lay2_apply _ b _ n _ h) (fun n => lay2_apply _ b _ n _ h) n).trans ?_
  rw [ite_self]

theorem result3 (b : Fin 8) (s : Fin 2048) (n : Fin 512) :
    val_main_v158 (F := Ideal) x0 x1 (ix3 b s n) = proj (row x0 b s) (wt x1) ⟨4608 + n, by omega⟩ := by
  refine Eq.trans ?_ (proj_apply x0 x1 b s ⟨4608 + n, by omega⟩ ⟨4608 + n, by omega⟩ rfl)
  refine extractStridedSlice_apply _ _ _ _ _ (fun a => ?_)
  match a with
  | ⟨0, _⟩ => exact (Nat.zero_add _).symm
  | ⟨1, _⟩ => exact (Nat.zero_add _).symm
  | ⟨2, _⟩ => rfl

end Proj.Reference
-- ==== Proof.Proj.Result.lean ====
module

public import proofs.«01_k».proof.Proof.Proj.Reference

/-! The arrays the reference leaves. -/

set_option maxRecDepth 16384

@[expose] public noncomputable section

open Idealize.ShloMosaic Idealize.ShloMosaic.TcCoe Idealize.SL.Sem
open Cert.Reference3Ideal Cert.Reference3Ideal.Gen Cert.Reference3Ideal.Read

namespace Proj.Reference

variable (m : (ℓ : Loc nD τ sig) → Buf (Elt Ideal) ℓ) (c : Dev nD)

/-- The token at a place of a phase. -/
def place4 (p : Fin 4) (q : Fin 512) : Fin 2048 := ⟨4 * (q : ℕ) + p, by omega⟩
def place16 (p : Fin 16) (q : Fin 128) : Fin 2048 := ⟨16 * (q : ℕ) + p, by omega⟩
def ucol (n : Fin 512) : Fin 5120 := ⟨4608 + n, by omega⟩

/-- The arrays. -/
def array0 (i : S8x2048x2560.Idx) : EReal :=
  stored0 (row (m ((c.tc : Thread nD τ).loc main_arg0)) (i 0)) (wt (m ((c.tc : Thread nD τ).loc main_arg1))) (i 1) (i 2)
def array1 (i : S8x4x512x2560.Idx) : EReal :=
  stored (row (m ((c.tc : Thread nD τ).loc main_arg0)) (i 0)) (wt (m ((c.tc : Thread nD τ).loc main_arg1))) 1
    (place4 (i 1) (i 2)) (sec (i 3)) (blk (i 3)) (lane (i 3))
def array2 (i : S8x16x128x2560.Idx) : EReal :=
  stored (row (m ((c.tc : Thread nD τ).loc main_arg0)) (i 0)) (wt (m ((c.tc : Thread nD τ).loc main_arg1))) 2
    (place16 (i 1) (i 2)) (sec (i 3)) (blk (i 3)) (lane (i 3))
def array3 (i : S8x2048x512.Idx) : EReal :=
  proj (row (m ((c.tc : Thread nD τ).loc main_arg0)) (i 0) (i 1)) (wt (m ((c.tc : Thread nD τ).loc main_arg1))) (ucol (i 2))

theorem res_array0 : Cert.Reference3Ideal.Value.res_main_v85 (F := Ideal) m c = array0 m c := by
  rw [val_main_v85_eq]
  funext i
  idx_vars i
  exact result0 _ _ i0 i1 i2

theorem res_array1 : Cert.Reference3Ideal.Value.res_main_v156 (F := Ideal) m c = array1 m c := by
  rw [val_main_v156_eq]
  funext i
  idx_vars i
  exact result1 _ _ i0 i1 i2 i3

theorem res_array2 : Cert.Reference3Ideal.Value.res_main_v157 (F := Ideal) m c = array2 m c := by
  rw [val_main_v157_eq]
  funext i
  idx_vars i
  exact result2 _ _ i0 i1 i2 i3

theorem res_array3 :
    val_main_v158 (F := Ideal) (m ((c.tc : Thread nD τ).loc main_arg0)) (m ((c.tc : Thread nD τ).loc main_arg1))
      = array3 m c := by
  funext i
  idx_vars i
  exact result3 _ _ i0 i1 i2

/-- The run's results, in plain form. -/
theorem run_result (ρ : Dev nD → PrngReg) :
    θ_run defs (onTc (τ := τ) (main (F := Ideal))) ⟨m, fun _ => 0, ρ⟩ fun r => ∀ c : Dev nD,
      r.2.mem ((c.tc : Thread nD τ).loc main_v85) = array0 m c
      ∧ r.2.mem ((c.tc : Thread nD τ).loc main_v156) = array1 m c
      ∧ r.2.mem ((c.tc : Thread nD τ).loc main_v157) = array2 m c
      ∧ r.2.mem ((c.tc : Thread nD τ).loc main_v158) = array3 m c
      ∧ r.2.mem ((c.tc : Thread nD τ).loc main_arg0) = m ((c.tc : Thread nD τ).loc main_arg0)
      ∧ r.2.mem ((c.tc : Thread nD τ).loc main_arg1) = m ((c.tc : Thread nD τ).loc main_arg1) :=
  (θ_run _ _ _).mono (fun r h c => ⟨(h c).1.trans (res_array0 m c), (h c).2.1.trans (res_array1 m c),
    (h c).2.2.1.trans (res_array2 m c), (h c).2.2.2.1.trans ((val_main_v158_eq _ _).trans (res_array3 m c)), (h c).2.2.2.2⟩)
    (Cert.Reference3Ideal.Value.run m ρ)

end Proj.Reference
-- ==== Proof.lean ====
module

public import proofs.«01_k».proof.Defs
public import proofs.«01_k».proof.Proof.Gen.Kernel2.Frame
public import proofs.«01_k».proof.Proof.Gen.Kernel2Ideal.Frame
public import proofs.«01_k».proof.Proof.Gen.Kernel2Ideal.Value
public import proofs.«01_k».proof.Proof.Gen.Reference2Ideal.Run
public import proofs.«01_k».proof.Proof.Gen.Reference2Ideal.Read
public import proofs.«01_k».proof.Proof.Mix.Blocks
public import proofs.«01_k».proof.Proof.Gen.Kernel3.Frame
public import proofs.«01_k».proof.Proof.Gen.Kernel3Ideal.Frame
public import proofs.«01_k».proof.Proof.Gen.Kernel3Ideal.Value
public import proofs.«01_k».proof.Proof.Gen.Reference3Ideal.Run
public import proofs.«01_k».proof.Proof.Gen.Reference3Ideal.Read
public import proofs.«01_k».proof.Proof.Proj.Final
public import proofs.«01_k».proof.Proof.Proj.Result
public import Idealize.ShloMosaic.Adequacy
public import Idealize.ShloMosaic.Init
public import Idealize.ShloMosaic.Lib.Claim

set_option maxRecDepth 16384

@[expose] public noncomputable section

namespace Cert.Proof

open Idealize.ShloMosaic Idealize.SL.Sem

instance : Cert.Kernel2.Facts := Cert.Kernel2.Gen.facts
instance : Cert.Kernel2Ideal.Facts := Cert.Kernel2Ideal.Gen.facts
instance : Cert.Reference2Ideal.Facts := Cert.Reference2Ideal.Gen.facts
instance : Cert.Kernel3.Facts := Cert.Kernel3.Gen.facts
instance : Cert.Kernel3Ideal.Facts := Cert.Kernel3Ideal.Gen.facts
instance : Cert.Reference3Ideal.Facts := Cert.Reference3Ideal.Gen.facts

theorem frame_reference2 : Cert.quiescent_Reference2Ideal := fun m ρ _ =>
  (θ_run _ _ _).mono (fun r h => ⟨fun c => (h c).2, sem_eq_zero_of_no_sems rfl r.2⟩)
    (Cert.Reference2Ideal.Value.run m ρ)

theorem algebraic2 : Cert.algebraic_Kernel2Ideal_Reference2Ideal := by
  pair_intro
  · run_from Cert.Kernel2Ideal.Value.run_blocks m g
  · run_from Mix.Reference.run_result m' g'
    rw [Mix.Blocks.final m c]
    unfold Mix.Reference.result Mix.Blocks.result
    obtain ⟨e0, e1, e2, e3, e4, e5, e6, e7, e8, e9, e10, e11, e12, e13, e14, e15, e16⟩ := hagree c
    rw [e0, e1, e2, e3, e4, e5, e6, e7, e8, e9, e10, e11, e12, e13, e14, e15, e16]

theorem frame_reference3 : Cert.quiescent_Reference3Ideal := fun m ρ _ =>
  (θ_run _ _ _).mono (fun r h => ⟨fun c => (h c).2.2.2.2, sem_eq_zero_of_no_sems rfl r.2⟩)
    (Cert.Reference3Ideal.Value.run m ρ)

theorem algebraic3 : Cert.algebraic_Kernel3Ideal_Reference3Ideal := by
  pair_intro
  · run_from Cert.Kernel3Ideal.Value.run_blocks m g
  · run_from Proj.Reference.run_result m' g'
    all_goals obtain ⟨e0, e1⟩ := hagree c
    · rw [Proj.Final.final11 m c]
      unfold Proj.Reference.array0 Proj.Final.result0
      rw [e0, e1]
    · rw [Proj.Final.final12 m c]
      unfold Proj.Reference.array1 Proj.Final.result1
      rw [e0, e1]
      rfl
    · rw [Proj.Final.final13 m c]
      unfold Proj.Reference.array2 Proj.Final.result2
      rw [e0, e1]
      rfl
    · rw [Proj.Final.final14 m c]
      unfold Proj.Reference.array3 Proj.Final.result3
      rw [e0, e1]
      rfl

theorem claim : Cert.Claim := ⟨Cert.Kernel2.Gen.facts, Cert.Kernel2Ideal.Gen.facts, Cert.Reference2Ideal.Gen.facts,
  Cert.Kernel3.Gen.facts, Cert.Kernel3Ideal.Gen.facts, Cert.Reference3Ideal.Gen.facts,
  fun m ρ _ => Cert.Kernel2.Gen.frame m ρ, fun m ρ _ => Cert.Kernel2Ideal.Gen.frame m ρ, frame_reference2,
  fun m ρ _ => Cert.Kernel3.Gen.frame m ρ, fun m ρ _ => Cert.Kernel3Ideal.Gen.frame m ρ, frame_reference3,
  trivial, algebraic2, trivial, algebraic3⟩

end Cert.Proof

end
